-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S1 : Shape := ⟨1, ![1]⟩
abbrev S4096x256 : Shape := ⟨2, ![4096, 256]⟩
abbrev S4x4096x256 : Shape := ⟨3, ![4, 4096, 256]⟩
abbrev S32x128x256 : Shape := ⟨3, ![32, 128, 256]⟩
abbrev S4 : Shape := ⟨1, ![4]⟩
abbrev S32 : Shape := ⟨1, ![32]⟩
abbrev S_ : Shape := ⟨0, ![]⟩
abbrev S1x4096x256 : Shape := ⟨3, ![1, 4096, 256]⟩
abbrev S128x256 : Shape := ⟨2, ![128, 256]⟩
abbrev S1x128x256 : Shape := ⟨3, ![1, 128, 256]⟩

abbrev nBuf : Space → Nat
  | .hbm => 5
  | .vmem => 4
  | .smem => 2
  | _ => 0

abbrev bufTy : (tb : Table) → Fin (tcTables nBuf tb) → BufTy
  | .hbm, ⟨0, _⟩ => ⟨S128x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S4x4096x256, .f32⟩
  | .local _ .vmem, ⟨3, _⟩ => ⟨S32x128x256, .f32⟩
  | .local _ .smem, ⟨0, _⟩ => ⟨S1, .f32⟩
  | .local _ .smem, ⟨1, _⟩ => ⟨S1, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 1 → Bool
  | ⟨0, _⟩ => false
  | _ => false

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  (ofTc nBuf bufTy 1 41 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c0_i32_283 : BitVec 32) : Fin 2 → Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v413 : BitVec 32 := Scalar.addi v2 c0_i32_283
  let c32_i32_284 : BitVec 32 := 32#32
  let c0_i32_285 : BitVec 32 := 0#32
  let v414 : BitVec 1 := Scalar.cmpi .eq c32_i32_284 c0_i32_285
  let c1_i32_286 : BitVec 32 := 1#32
  let v415 : BitVec 32 := Scalar.select v414 c1_i32_286 c32_i32_284
  let v416 : BitVec 32 := Scalar.remsi v413 v415
  let c0_i32_288 : BitVec 32 := 0#32
  let v418 : BitVec 1 := Scalar.cmpi .slt v416 c0_i32_288
  let c0_i32_289 : BitVec 32 := 0#32
  let v419 : BitVec 1 := Scalar.cmpi .slt v415 c0_i32_289
  let v420 : BitVec 1 := Scalar.xori v418 v419
  let c0_i32_287 : BitVec 32 := 0#32
  let v417 : BitVec 1 := Scalar.cmpi .ne v416 c0_i32_287
  let v421 : BitVec 1 := Scalar.andi v420 v417
  let v422 : BitVec 32 := Scalar.addi v416 v415
  let v423 : BitVec 32 := Scalar.select v421 v422 v416
  let c256_i32 : BitVec 32 := 256#32
  let v424 : BitVec 32 := Scalar.muli v423 c256_i32
  ![0, v424.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v494 : BitVec 32 := Scalar.muli v2 c128_i32
  let v495 : Index := Scalar.indexCast v494
  let c0_343 : Index := 0#32
  ![v495.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_376 : BitVec 32 := 128#32
  let v541 : BitVec 32 := Scalar.muli v2 c128_i32_376
  let c0_i32_381 : BitVec 32 := 0#32
  ![v541.toNat, 0]
def k0_dev32 (d0 : Dev nD) : Nat :=
  let c0_i32_380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_344 : BitVec 32 := 1#32
  let v497 : BitVec 32 := Scalar.addi v2 c1_i32_344
  let c32_i32_345 : BitVec 32 := 32#32
  let c0_i32_346 : BitVec 32 := 0#32
  let v498 : BitVec 1 := Scalar.cmpi .eq c32_i32_345 c0_i32_346
  let c1_i32_347 : BitVec 32 := 1#32
  let v499 : BitVec 32 := Scalar.select v498 c1_i32_347 c32_i32_345
  let v500 : BitVec 32 := Scalar.remsi v497 v499
  let c0_i32_349 : BitVec 32 := 0#32
  let v502 : BitVec 1 := Scalar.cmpi .slt v500 c0_i32_349
  let c0_i32_350 : BitVec 32 := 0#32
  let v503 : BitVec 1 := Scalar.cmpi .slt v499 c0_i32_350
  let v504 : BitVec 1 := Scalar.xori v502 v503
  let c0_i32_348 : BitVec 32 := 0#32
  let v501 : BitVec 1 := Scalar.cmpi .ne v500 c0_i32_348
  let v505 : BitVec 1 := Scalar.andi v504 v501
  let v506 : BitVec 32 := Scalar.addi v500 v499
  let v507 : BitVec 32 := Scalar.select v505 v506 v500
  let c1_i32_379 : BitVec 32 := 1#32
  let v542 : BitVec 32 := Scalar.muli v507 c1_i32_379
  let v543 : BitVec 32 := Scalar.addi c0_i32_380 v542
  v543.toNat
def k0_dev33 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_384 : BitVec 32 := 2#32
  let v549 : BitVec 32 := Scalar.addi v2 c2_i32_384
  let c32_i32_385 : BitVec 32 := 32#32
  let c0_i32_386 : BitVec 32 := 0#32
  let v550 : BitVec 1 := Scalar.cmpi .eq c32_i32_385 c0_i32_386
  let c1_i32_387 : BitVec 32 := 1#32
  let v551 : BitVec 32 := Scalar.select v550 c1_i32_387 c32_i32_385
  let v552 : BitVec 32 := Scalar.remsi v549 v551
  let c0_i32_389 : BitVec 32 := 0#32
  let v554 : BitVec 1 := Scalar.cmpi .slt v552 c0_i32_389
  let c0_i32_390 : BitVec 32 := 0#32
  let v555 : BitVec 1 := Scalar.cmpi .slt v551 c0_i32_390
  let v556 : BitVec 1 := Scalar.xori v554 v555
  let c0_i32_388 : BitVec 32 := 0#32
  let v553 : BitVec 1 := Scalar.cmpi .ne v552 c0_i32_388
  let v557 : BitVec 1 := Scalar.andi v556 v553
  let v558 : BitVec 32 := Scalar.addi v552 v551
  let v559 : BitVec 32 := Scalar.select v557 v558 v552
  let c1_i32_419 : BitVec 32 := 1#32
  let v594 : BitVec 32 := Scalar.muli v559 c1_i32_419
  let v595 : BitVec 32 := Scalar.addi c0_i32_420 v594
  v595.toNat
def k0_dev34 (d0 : Dev nD) : Nat :=
  let c0_i32_460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_424 : BitVec 32 := 3#32
  let v601 : BitVec 32 := Scalar.addi v2 c3_i32_424
  let c32_i32_425 : BitVec 32 := 32#32
  let c0_i32_426 : BitVec 32 := 0#32
  let v602 : BitVec 1 := Scalar.cmpi .eq c32_i32_425 c0_i32_426
  let c1_i32_427 : BitVec 32 := 1#32
  let v603 : BitVec 32 := Scalar.select v602 c1_i32_427 c32_i32_425
  let v604 : BitVec 32 := Scalar.remsi v601 v603
  let c0_i32_429 : BitVec 32 := 0#32
  let v606 : BitVec 1 := Scalar.cmpi .slt v604 c0_i32_429
  let c0_i32_430 : BitVec 32 := 0#32
  let v607 : BitVec 1 := Scalar.cmpi .slt v603 c0_i32_430
  let v608 : BitVec 1 := Scalar.xori v606 v607
  let c0_i32_428 : BitVec 32 := 0#32
  let v605 : BitVec 1 := Scalar.cmpi .ne v604 c0_i32_428
  let v609 : BitVec 1 := Scalar.andi v608 v605
  let v610 : BitVec 32 := Scalar.addi v604 v603
  let v611 : BitVec 32 := Scalar.select v609 v610 v604
  let c1_i32_459 : BitVec 32 := 1#32
  let v646 : BitVec 32 := Scalar.muli v611 c1_i32_459
  let v647 : BitVec 32 := Scalar.addi c0_i32_460 v646
  v647.toNat
def k0_dev35 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_464 : BitVec 32 := 4#32
  let v653 : BitVec 32 := Scalar.addi v2 c4_i32_464
  let c32_i32_465 : BitVec 32 := 32#32
  let c0_i32_466 : BitVec 32 := 0#32
  let v654 : BitVec 1 := Scalar.cmpi .eq c32_i32_465 c0_i32_466
  let c1_i32_467 : BitVec 32 := 1#32
  let v655 : BitVec 32 := Scalar.select v654 c1_i32_467 c32_i32_465
  let v656 : BitVec 32 := Scalar.remsi v653 v655
  let c0_i32_469 : BitVec 32 := 0#32
  let v658 : BitVec 1 := Scalar.cmpi .slt v656 c0_i32_469
  let c0_i32_470 : BitVec 32 := 0#32
  let v659 : BitVec 1 := Scalar.cmpi .slt v655 c0_i32_470
  let v660 : BitVec 1 := Scalar.xori v658 v659
  let c0_i32_468 : BitVec 32 := 0#32
  let v657 : BitVec 1 := Scalar.cmpi .ne v656 c0_i32_468
  let v661 : BitVec 1 := Scalar.andi v660 v657
  let v662 : BitVec 32 := Scalar.addi v656 v655
  let v663 : BitVec 32 := Scalar.select v661 v662 v656
  let c1_i32_499 : BitVec 32 := 1#32
  let v698 : BitVec 32 := Scalar.muli v663 c1_i32_499
  let v699 : BitVec 32 := Scalar.addi c0_i32_500 v698
  v699.toNat
def k0_dev36 (d0 : Dev nD) : Nat :=
  let c0_i32_540 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_504 : BitVec 32 := 5#32
  let v705 : BitVec 32 := Scalar.addi v2 c5_i32_504
  let c32_i32_505 : BitVec 32 := 32#32
  let c0_i32_506 : BitVec 32 := 0#32
  let v706 : BitVec 1 := Scalar.cmpi .eq c32_i32_505 c0_i32_506
  let c1_i32_507 : BitVec 32 := 1#32
  let v707 : BitVec 32 := Scalar.select v706 c1_i32_507 c32_i32_505
  let v708 : BitVec 32 := Scalar.remsi v705 v707
  let c0_i32_509 : BitVec 32 := 0#32
  let v710 : BitVec 1 := Scalar.cmpi .slt v708 c0_i32_509
  let c0_i32_510 : BitVec 32 := 0#32
  let v711 : BitVec 1 := Scalar.cmpi .slt v707 c0_i32_510
  let v712 : BitVec 1 := Scalar.xori v710 v711
  let c0_i32_508 : BitVec 32 := 0#32
  let v709 : BitVec 1 := Scalar.cmpi .ne v708 c0_i32_508
  let v713 : BitVec 1 := Scalar.andi v712 v709
  let v714 : BitVec 32 := Scalar.addi v708 v707
  let v715 : BitVec 32 := Scalar.select v713 v714 v708
  let c1_i32_539 : BitVec 32 := 1#32
  let v750 : BitVec 32 := Scalar.muli v715 c1_i32_539
  let v751 : BitVec 32 := Scalar.addi c0_i32_540 v750
  v751.toNat
def k0_dev37 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_544 : BitVec 32 := 6#32
  let v757 : BitVec 32 := Scalar.addi v2 c6_i32_544
  let c32_i32_545 : BitVec 32 := 32#32
  let c0_i32_546 : BitVec 32 := 0#32
  let v758 : BitVec 1 := Scalar.cmpi .eq c32_i32_545 c0_i32_546
  let c1_i32_547 : BitVec 32 := 1#32
  let v759 : BitVec 32 := Scalar.select v758 c1_i32_547 c32_i32_545
  let v760 : BitVec 32 := Scalar.remsi v757 v759
  let c0_i32_549 : BitVec 32 := 0#32
  let v762 : BitVec 1 := Scalar.cmpi .slt v760 c0_i32_549
  let c0_i32_550 : BitVec 32 := 0#32
  let v763 : BitVec 1 := Scalar.cmpi .slt v759 c0_i32_550
  let v764 : BitVec 1 := Scalar.xori v762 v763
  let c0_i32_548 : BitVec 32 := 0#32
  let v761 : BitVec 1 := Scalar.cmpi .ne v760 c0_i32_548
  let v765 : BitVec 1 := Scalar.andi v764 v761
  let v766 : BitVec 32 := Scalar.addi v760 v759
  let v767 : BitVec 32 := Scalar.select v765 v766 v760
  let c1_i32_579 : BitVec 32 := 1#32
  let v802 : BitVec 32 := Scalar.muli v767 c1_i32_579
  let v803 : BitVec 32 := Scalar.addi c0_i32_580 v802
  v803.toNat
def k0_dev38 (d0 : Dev nD) : Nat :=
  let c0_i32_620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_584 : BitVec 32 := 7#32
  let v809 : BitVec 32 := Scalar.addi v2 c7_i32_584
  let c32_i32_585 : BitVec 32 := 32#32
  let c0_i32_586 : BitVec 32 := 0#32
  let v810 : BitVec 1 := Scalar.cmpi .eq c32_i32_585 c0_i32_586
  let c1_i32_587 : BitVec 32 := 1#32
  let v811 : BitVec 32 := Scalar.select v810 c1_i32_587 c32_i32_585
  let v812 : BitVec 32 := Scalar.remsi v809 v811
  let c0_i32_589 : BitVec 32 := 0#32
  let v814 : BitVec 1 := Scalar.cmpi .slt v812 c0_i32_589
  let c0_i32_590 : BitVec 32 := 0#32
  let v815 : BitVec 1 := Scalar.cmpi .slt v811 c0_i32_590
  let v816 : BitVec 1 := Scalar.xori v814 v815
  let c0_i32_588 : BitVec 32 := 0#32
  let v813 : BitVec 1 := Scalar.cmpi .ne v812 c0_i32_588
  let v817 : BitVec 1 := Scalar.andi v816 v813
  let v818 : BitVec 32 := Scalar.addi v812 v811
  let v819 : BitVec 32 := Scalar.select v817 v818 v812
  let c1_i32_619 : BitVec 32 := 1#32
  let v854 : BitVec 32 := Scalar.muli v819 c1_i32_619
  let v855 : BitVec 32 := Scalar.addi c0_i32_620 v854
  v855.toNat
def k0_dev39 (d0 : Dev nD) : Nat :=
  let c0_i32_660 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_624 : BitVec 32 := 8#32
  let v861 : BitVec 32 := Scalar.addi v2 c8_i32_624
  let c32_i32_625 : BitVec 32 := 32#32
  let c0_i32_626 : BitVec 32 := 0#32
  let v862 : BitVec 1 := Scalar.cmpi .eq c32_i32_625 c0_i32_626
  let c1_i32_627 : BitVec 32 := 1#32
  let v863 : BitVec 32 := Scalar.select v862 c1_i32_627 c32_i32_625
  let v864 : BitVec 32 := Scalar.remsi v861 v863
  let c0_i32_629 : BitVec 32 := 0#32
  let v866 : BitVec 1 := Scalar.cmpi .slt v864 c0_i32_629
  let c0_i32_630 : BitVec 32 := 0#32
  let v867 : BitVec 1 := Scalar.cmpi .slt v863 c0_i32_630
  let v868 : BitVec 1 := Scalar.xori v866 v867
  let c0_i32_628 : BitVec 32 := 0#32
  let v865 : BitVec 1 := Scalar.cmpi .ne v864 c0_i32_628
  let v869 : BitVec 1 := Scalar.andi v868 v865
  let v870 : BitVec 32 := Scalar.addi v864 v863
  let v871 : BitVec 32 := Scalar.select v869 v870 v864
  let c1_i32_659 : BitVec 32 := 1#32
  let v906 : BitVec 32 := Scalar.muli v871 c1_i32_659
  let v907 : BitVec 32 := Scalar.addi c0_i32_660 v906
  v907.toNat
def k0_dev40 (d0 : Dev nD) : Nat :=
  let c0_i32_700 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_664 : BitVec 32 := 9#32
  let v913 : BitVec 32 := Scalar.addi v2 c9_i32_664
  let c32_i32_665 : BitVec 32 := 32#32
  let c0_i32_666 : BitVec 32 := 0#32
  let v914 : BitVec 1 := Scalar.cmpi .eq c32_i32_665 c0_i32_666
  let c1_i32_667 : BitVec 32 := 1#32
  let v915 : BitVec 32 := Scalar.select v914 c1_i32_667 c32_i32_665
  let v916 : BitVec 32 := Scalar.remsi v913 v915
  let c0_i32_669 : BitVec 32 := 0#32
  let v918 : BitVec 1 := Scalar.cmpi .slt v916 c0_i32_669
  let c0_i32_670 : BitVec 32 := 0#32
  let v919 : BitVec 1 := Scalar.cmpi .slt v915 c0_i32_670
  let v920 : BitVec 1 := Scalar.xori v918 v919
  let c0_i32_668 : BitVec 32 := 0#32
  let v917 : BitVec 1 := Scalar.cmpi .ne v916 c0_i32_668
  let v921 : BitVec 1 := Scalar.andi v920 v917
  let v922 : BitVec 32 := Scalar.addi v916 v915
  let v923 : BitVec 32 := Scalar.select v921 v922 v916
  let c1_i32_699 : BitVec 32 := 1#32
  let v958 : BitVec 32 := Scalar.muli v923 c1_i32_699
  let v959 : BitVec 32 := Scalar.addi c0_i32_700 v958
  v959.toNat
def k0_dev41 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_704 : BitVec 32 := 10#32
  let v965 : BitVec 32 := Scalar.addi v2 c10_i32_704
  let c32_i32_705 : BitVec 32 := 32#32
  let c0_i32_706 : BitVec 32 := 0#32
  let v966 : BitVec 1 := Scalar.cmpi .eq c32_i32_705 c0_i32_706
  let c1_i32_707 : BitVec 32 := 1#32
  let v967 : BitVec 32 := Scalar.select v966 c1_i32_707 c32_i32_705
  let v968 : BitVec 32 := Scalar.remsi v965 v967
  let c0_i32_709 : BitVec 32 := 0#32
  let v970 : BitVec 1 := Scalar.cmpi .slt v968 c0_i32_709
  let c0_i32_710 : BitVec 32 := 0#32
  let v971 : BitVec 1 := Scalar.cmpi .slt v967 c0_i32_710
  let v972 : BitVec 1 := Scalar.xori v970 v971
  let c0_i32_708 : BitVec 32 := 0#32
  let v969 : BitVec 1 := Scalar.cmpi .ne v968 c0_i32_708
  let v973 : BitVec 1 := Scalar.andi v972 v969
  let v974 : BitVec 32 := Scalar.addi v968 v967
  let v975 : BitVec 32 := Scalar.select v973 v974 v968
  let c1_i32_739 : BitVec 32 := 1#32
  let v1010 : BitVec 32 := Scalar.muli v975 c1_i32_739
  let v1011 : BitVec 32 := Scalar.addi c0_i32_740 v1010
  v1011.toNat
def k0_dev42 (d0 : Dev nD) : Nat :=
  let c0_i32_780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_744 : BitVec 32 := 11#32
  let v1017 : BitVec 32 := Scalar.addi v2 c11_i32_744
  let c32_i32_745 : BitVec 32 := 32#32
  let c0_i32_746 : BitVec 32 := 0#32
  let v1018 : BitVec 1 := Scalar.cmpi .eq c32_i32_745 c0_i32_746
  let c1_i32_747 : BitVec 32 := 1#32
  let v1019 : BitVec 32 := Scalar.select v1018 c1_i32_747 c32_i32_745
  let v1020 : BitVec 32 := Scalar.remsi v1017 v1019
  let c0_i32_749 : BitVec 32 := 0#32
  let v1022 : BitVec 1 := Scalar.cmpi .slt v1020 c0_i32_749
  let c0_i32_750 : BitVec 32 := 0#32
  let v1023 : BitVec 1 := Scalar.cmpi .slt v1019 c0_i32_750
  let v1024 : BitVec 1 := Scalar.xori v1022 v1023
  let c0_i32_748 : BitVec 32 := 0#32
  let v1021 : BitVec 1 := Scalar.cmpi .ne v1020 c0_i32_748
  let v1025 : BitVec 1 := Scalar.andi v1024 v1021
  let v1026 : BitVec 32 := Scalar.addi v1020 v1019
  let v1027 : BitVec 32 := Scalar.select v1025 v1026 v1020
  let c1_i32_779 : BitVec 32 := 1#32
  let v1062 : BitVec 32 := Scalar.muli v1027 c1_i32_779
  let v1063 : BitVec 32 := Scalar.addi c0_i32_780 v1062
  v1063.toNat
def k0_dev43 (d0 : Dev nD) : Nat :=
  let c0_i32_820 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_784 : BitVec 32 := 12#32
  let v1069 : BitVec 32 := Scalar.addi v2 c12_i32_784
  let c32_i32_785 : BitVec 32 := 32#32
  let c0_i32_786 : BitVec 32 := 0#32
  let v1070 : BitVec 1 := Scalar.cmpi .eq c32_i32_785 c0_i32_786
  let c1_i32_787 : BitVec 32 := 1#32
  let v1071 : BitVec 32 := Scalar.select v1070 c1_i32_787 c32_i32_785
  let v1072 : BitVec 32 := Scalar.remsi v1069 v1071
  let c0_i32_789 : BitVec 32 := 0#32
  let v1074 : BitVec 1 := Scalar.cmpi .slt v1072 c0_i32_789
  let c0_i32_790 : BitVec 32 := 0#32
  let v1075 : BitVec 1 := Scalar.cmpi .slt v1071 c0_i32_790
  let v1076 : BitVec 1 := Scalar.xori v1074 v1075
  let c0_i32_788 : BitVec 32 := 0#32
  let v1073 : BitVec 1 := Scalar.cmpi .ne v1072 c0_i32_788
  let v1077 : BitVec 1 := Scalar.andi v1076 v1073
  let v1078 : BitVec 32 := Scalar.addi v1072 v1071
  let v1079 : BitVec 32 := Scalar.select v1077 v1078 v1072
  let c1_i32_819 : BitVec 32 := 1#32
  let v1114 : BitVec 32 := Scalar.muli v1079 c1_i32_819
  let v1115 : BitVec 32 := Scalar.addi c0_i32_820 v1114
  v1115.toNat
def k0_dev44 (d0 : Dev nD) : Nat :=
  let c0_i32_860 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_824 : BitVec 32 := 13#32
  let v1121 : BitVec 32 := Scalar.addi v2 c13_i32_824
  let c32_i32_825 : BitVec 32 := 32#32
  let c0_i32_826 : BitVec 32 := 0#32
  let v1122 : BitVec 1 := Scalar.cmpi .eq c32_i32_825 c0_i32_826
  let c1_i32_827 : BitVec 32 := 1#32
  let v1123 : BitVec 32 := Scalar.select v1122 c1_i32_827 c32_i32_825
  let v1124 : BitVec 32 := Scalar.remsi v1121 v1123
  let c0_i32_829 : BitVec 32 := 0#32
  let v1126 : BitVec 1 := Scalar.cmpi .slt v1124 c0_i32_829
  let c0_i32_830 : BitVec 32 := 0#32
  let v1127 : BitVec 1 := Scalar.cmpi .slt v1123 c0_i32_830
  let v1128 : BitVec 1 := Scalar.xori v1126 v1127
  let c0_i32_828 : BitVec 32 := 0#32
  let v1125 : BitVec 1 := Scalar.cmpi .ne v1124 c0_i32_828
  let v1129 : BitVec 1 := Scalar.andi v1128 v1125
  let v1130 : BitVec 32 := Scalar.addi v1124 v1123
  let v1131 : BitVec 32 := Scalar.select v1129 v1130 v1124
  let c1_i32_859 : BitVec 32 := 1#32
  let v1166 : BitVec 32 := Scalar.muli v1131 c1_i32_859
  let v1167 : BitVec 32 := Scalar.addi c0_i32_860 v1166
  v1167.toNat
def k0_dev45 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_864 : BitVec 32 := 14#32
  let v1173 : BitVec 32 := Scalar.addi v2 c14_i32_864
  let c32_i32_865 : BitVec 32 := 32#32
  let c0_i32_866 : BitVec 32 := 0#32
  let v1174 : BitVec 1 := Scalar.cmpi .eq c32_i32_865 c0_i32_866
  let c1_i32_867 : BitVec 32 := 1#32
  let v1175 : BitVec 32 := Scalar.select v1174 c1_i32_867 c32_i32_865
  let v1176 : BitVec 32 := Scalar.remsi v1173 v1175
  let c0_i32_869 : BitVec 32 := 0#32
  let v1178 : BitVec 1 := Scalar.cmpi .slt v1176 c0_i32_869
  let c0_i32_870 : BitVec 32 := 0#32
  let v1179 : BitVec 1 := Scalar.cmpi .slt v1175 c0_i32_870
  let v1180 : BitVec 1 := Scalar.xori v1178 v1179
  let c0_i32_868 : BitVec 32 := 0#32
  let v1177 : BitVec 1 := Scalar.cmpi .ne v1176 c0_i32_868
  let v1181 : BitVec 1 := Scalar.andi v1180 v1177
  let v1182 : BitVec 32 := Scalar.addi v1176 v1175
  let v1183 : BitVec 32 := Scalar.select v1181 v1182 v1176
  let c1_i32_899 : BitVec 32 := 1#32
  let v1218 : BitVec 32 := Scalar.muli v1183 c1_i32_899
  let v1219 : BitVec 32 := Scalar.addi c0_i32_900 v1218
  v1219.toNat
def k0_dev46 (d0 : Dev nD) : Nat :=
  let c0_i32_940 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_904 : BitVec 32 := 15#32
  let v1225 : BitVec 32 := Scalar.addi v2 c15_i32_904
  let c32_i32_905 : BitVec 32 := 32#32
  let c0_i32_906 : BitVec 32 := 0#32
  let v1226 : BitVec 1 := Scalar.cmpi .eq c32_i32_905 c0_i32_906
  let c1_i32_907 : BitVec 32 := 1#32
  let v1227 : BitVec 32 := Scalar.select v1226 c1_i32_907 c32_i32_905
  let v1228 : BitVec 32 := Scalar.remsi v1225 v1227
  let c0_i32_909 : BitVec 32 := 0#32
  let v1230 : BitVec 1 := Scalar.cmpi .slt v1228 c0_i32_909
  let c0_i32_910 : BitVec 32 := 0#32
  let v1231 : BitVec 1 := Scalar.cmpi .slt v1227 c0_i32_910
  let v1232 : BitVec 1 := Scalar.xori v1230 v1231
  let c0_i32_908 : BitVec 32 := 0#32
  let v1229 : BitVec 1 := Scalar.cmpi .ne v1228 c0_i32_908
  let v1233 : BitVec 1 := Scalar.andi v1232 v1229
  let v1234 : BitVec 32 := Scalar.addi v1228 v1227
  let v1235 : BitVec 32 := Scalar.select v1233 v1234 v1228
  let c1_i32_939 : BitVec 32 := 1#32
  let v1270 : BitVec 32 := Scalar.muli v1235 c1_i32_939
  let v1271 : BitVec 32 := Scalar.addi c0_i32_940 v1270
  v1271.toNat
def k0_dev47 (d0 : Dev nD) : Nat :=
  let c0_i32_980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_944 : BitVec 32 := 16#32
  let v1277 : BitVec 32 := Scalar.addi v2 c16_i32_944
  let c32_i32_945 : BitVec 32 := 32#32
  let c0_i32_946 : BitVec 32 := 0#32
  let v1278 : BitVec 1 := Scalar.cmpi .eq c32_i32_945 c0_i32_946
  let c1_i32_947 : BitVec 32 := 1#32
  let v1279 : BitVec 32 := Scalar.select v1278 c1_i32_947 c32_i32_945
  let v1280 : BitVec 32 := Scalar.remsi v1277 v1279
  let c0_i32_949 : BitVec 32 := 0#32
  let v1282 : BitVec 1 := Scalar.cmpi .slt v1280 c0_i32_949
  let c0_i32_950 : BitVec 32 := 0#32
  let v1283 : BitVec 1 := Scalar.cmpi .slt v1279 c0_i32_950
  let v1284 : BitVec 1 := Scalar.xori v1282 v1283
  let c0_i32_948 : BitVec 32 := 0#32
  let v1281 : BitVec 1 := Scalar.cmpi .ne v1280 c0_i32_948
  let v1285 : BitVec 1 := Scalar.andi v1284 v1281
  let v1286 : BitVec 32 := Scalar.addi v1280 v1279
  let v1287 : BitVec 32 := Scalar.select v1285 v1286 v1280
  let c1_i32_979 : BitVec 32 := 1#32
  let v1322 : BitVec 32 := Scalar.muli v1287 c1_i32_979
  let v1323 : BitVec 32 := Scalar.addi c0_i32_980 v1322
  v1323.toNat
def k0_dev48 (d0 : Dev nD) : Nat :=
  let c0_i32_1020 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_984 : BitVec 32 := 17#32
  let v1329 : BitVec 32 := Scalar.addi v2 c17_i32_984
  let c32_i32_985 : BitVec 32 := 32#32
  let c0_i32_986 : BitVec 32 := 0#32
  let v1330 : BitVec 1 := Scalar.cmpi .eq c32_i32_985 c0_i32_986
  let c1_i32_987 : BitVec 32 := 1#32
  let v1331 : BitVec 32 := Scalar.select v1330 c1_i32_987 c32_i32_985
  let v1332 : BitVec 32 := Scalar.remsi v1329 v1331
  let c0_i32_989 : BitVec 32 := 0#32
  let v1334 : BitVec 1 := Scalar.cmpi .slt v1332 c0_i32_989
  let c0_i32_990 : BitVec 32 := 0#32
  let v1335 : BitVec 1 := Scalar.cmpi .slt v1331 c0_i32_990
  let v1336 : BitVec 1 := Scalar.xori v1334 v1335
  let c0_i32_988 : BitVec 32 := 0#32
  let v1333 : BitVec 1 := Scalar.cmpi .ne v1332 c0_i32_988
  let v1337 : BitVec 1 := Scalar.andi v1336 v1333
  let v1338 : BitVec 32 := Scalar.addi v1332 v1331
  let v1339 : BitVec 32 := Scalar.select v1337 v1338 v1332
  let c1_i32_1019 : BitVec 32 := 1#32
  let v1374 : BitVec 32 := Scalar.muli v1339 c1_i32_1019
  let v1375 : BitVec 32 := Scalar.addi c0_i32_1020 v1374
  v1375.toNat
def k0_dev49 (d0 : Dev nD) : Nat :=
  let c0_i32_1060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1024 : BitVec 32 := 18#32
  let v1381 : BitVec 32 := Scalar.addi v2 c18_i32_1024
  let c32_i32_1025 : BitVec 32 := 32#32
  let c0_i32_1026 : BitVec 32 := 0#32
  let v1382 : BitVec 1 := Scalar.cmpi .eq c32_i32_1025 c0_i32_1026
  let c1_i32_1027 : BitVec 32 := 1#32
  let v1383 : BitVec 32 := Scalar.select v1382 c1_i32_1027 c32_i32_1025
  let v1384 : BitVec 32 := Scalar.remsi v1381 v1383
  let c0_i32_1029 : BitVec 32 := 0#32
  let v1386 : BitVec 1 := Scalar.cmpi .slt v1384 c0_i32_1029
  let c0_i32_1030 : BitVec 32 := 0#32
  let v1387 : BitVec 1 := Scalar.cmpi .slt v1383 c0_i32_1030
  let v1388 : BitVec 1 := Scalar.xori v1386 v1387
  let c0_i32_1028 : BitVec 32 := 0#32
  let v1385 : BitVec 1 := Scalar.cmpi .ne v1384 c0_i32_1028
  let v1389 : BitVec 1 := Scalar.andi v1388 v1385
  let v1390 : BitVec 32 := Scalar.addi v1384 v1383
  let v1391 : BitVec 32 := Scalar.select v1389 v1390 v1384
  let c1_i32_1059 : BitVec 32 := 1#32
  let v1426 : BitVec 32 := Scalar.muli v1391 c1_i32_1059
  let v1427 : BitVec 32 := Scalar.addi c0_i32_1060 v1426
  v1427.toNat
def k0_dev50 (d0 : Dev nD) : Nat :=
  let c0_i32_1100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1064 : BitVec 32 := 19#32
  let v1433 : BitVec 32 := Scalar.addi v2 c19_i32_1064
  let c32_i32_1065 : BitVec 32 := 32#32
  let c0_i32_1066 : BitVec 32 := 0#32
  let v1434 : BitVec 1 := Scalar.cmpi .eq c32_i32_1065 c0_i32_1066
  let c1_i32_1067 : BitVec 32 := 1#32
  let v1435 : BitVec 32 := Scalar.select v1434 c1_i32_1067 c32_i32_1065
  let v1436 : BitVec 32 := Scalar.remsi v1433 v1435
  let c0_i32_1069 : BitVec 32 := 0#32
  let v1438 : BitVec 1 := Scalar.cmpi .slt v1436 c0_i32_1069
  let c0_i32_1070 : BitVec 32 := 0#32
  let v1439 : BitVec 1 := Scalar.cmpi .slt v1435 c0_i32_1070
  let v1440 : BitVec 1 := Scalar.xori v1438 v1439
  let c0_i32_1068 : BitVec 32 := 0#32
  let v1437 : BitVec 1 := Scalar.cmpi .ne v1436 c0_i32_1068
  let v1441 : BitVec 1 := Scalar.andi v1440 v1437
  let v1442 : BitVec 32 := Scalar.addi v1436 v1435
  let v1443 : BitVec 32 := Scalar.select v1441 v1442 v1436
  let c1_i32_1099 : BitVec 32 := 1#32
  let v1478 : BitVec 32 := Scalar.muli v1443 c1_i32_1099
  let v1479 : BitVec 32 := Scalar.addi c0_i32_1100 v1478
  v1479.toNat
def k0_dev51 (d0 : Dev nD) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1104 : BitVec 32 := 20#32
  let v1485 : BitVec 32 := Scalar.addi v2 c20_i32_1104
  let c32_i32_1105 : BitVec 32 := 32#32
  let c0_i32_1106 : BitVec 32 := 0#32
  let v1486 : BitVec 1 := Scalar.cmpi .eq c32_i32_1105 c0_i32_1106
  let c1_i32_1107 : BitVec 32 := 1#32
  let v1487 : BitVec 32 := Scalar.select v1486 c1_i32_1107 c32_i32_1105
  let v1488 : BitVec 32 := Scalar.remsi v1485 v1487
  let c0_i32_1109 : BitVec 32 := 0#32
  let v1490 : BitVec 1 := Scalar.cmpi .slt v1488 c0_i32_1109
  let c0_i32_1110 : BitVec 32 := 0#32
  let v1491 : BitVec 1 := Scalar.cmpi .slt v1487 c0_i32_1110
  let v1492 : BitVec 1 := Scalar.xori v1490 v1491
  let c0_i32_1108 : BitVec 32 := 0#32
  let v1489 : BitVec 1 := Scalar.cmpi .ne v1488 c0_i32_1108
  let v1493 : BitVec 1 := Scalar.andi v1492 v1489
  let v1494 : BitVec 32 := Scalar.addi v1488 v1487
  let v1495 : BitVec 32 := Scalar.select v1493 v1494 v1488
  let c1_i32_1139 : BitVec 32 := 1#32
  let v1530 : BitVec 32 := Scalar.muli v1495 c1_i32_1139
  let v1531 : BitVec 32 := Scalar.addi c0_i32_1140 v1530
  v1531.toNat
def k0_dev52 (d0 : Dev nD) : Nat :=
  let c0_i32_1180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1144 : BitVec 32 := 21#32
  let v1537 : BitVec 32 := Scalar.addi v2 c21_i32_1144
  let c32_i32_1145 : BitVec 32 := 32#32
  let c0_i32_1146 : BitVec 32 := 0#32
  let v1538 : BitVec 1 := Scalar.cmpi .eq c32_i32_1145 c0_i32_1146
  let c1_i32_1147 : BitVec 32 := 1#32
  let v1539 : BitVec 32 := Scalar.select v1538 c1_i32_1147 c32_i32_1145
  let v1540 : BitVec 32 := Scalar.remsi v1537 v1539
  let c0_i32_1149 : BitVec 32 := 0#32
  let v1542 : BitVec 1 := Scalar.cmpi .slt v1540 c0_i32_1149
  let c0_i32_1150 : BitVec 32 := 0#32
  let v1543 : BitVec 1 := Scalar.cmpi .slt v1539 c0_i32_1150
  let v1544 : BitVec 1 := Scalar.xori v1542 v1543
  let c0_i32_1148 : BitVec 32 := 0#32
  let v1541 : BitVec 1 := Scalar.cmpi .ne v1540 c0_i32_1148
  let v1545 : BitVec 1 := Scalar.andi v1544 v1541
  let v1546 : BitVec 32 := Scalar.addi v1540 v1539
  let v1547 : BitVec 32 := Scalar.select v1545 v1546 v1540
  let c1_i32_1179 : BitVec 32 := 1#32
  let v1582 : BitVec 32 := Scalar.muli v1547 c1_i32_1179
  let v1583 : BitVec 32 := Scalar.addi c0_i32_1180 v1582
  v1583.toNat
def k0_dev53 (d0 : Dev nD) : Nat :=
  let c0_i32_1220 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1184 : BitVec 32 := 22#32
  let v1589 : BitVec 32 := Scalar.addi v2 c22_i32_1184
  let c32_i32_1185 : BitVec 32 := 32#32
  let c0_i32_1186 : BitVec 32 := 0#32
  let v1590 : BitVec 1 := Scalar.cmpi .eq c32_i32_1185 c0_i32_1186
  let c1_i32_1187 : BitVec 32 := 1#32
  let v1591 : BitVec 32 := Scalar.select v1590 c1_i32_1187 c32_i32_1185
  let v1592 : BitVec 32 := Scalar.remsi v1589 v1591
  let c0_i32_1189 : BitVec 32 := 0#32
  let v1594 : BitVec 1 := Scalar.cmpi .slt v1592 c0_i32_1189
  let c0_i32_1190 : BitVec 32 := 0#32
  let v1595 : BitVec 1 := Scalar.cmpi .slt v1591 c0_i32_1190
  let v1596 : BitVec 1 := Scalar.xori v1594 v1595
  let c0_i32_1188 : BitVec 32 := 0#32
  let v1593 : BitVec 1 := Scalar.cmpi .ne v1592 c0_i32_1188
  let v1597 : BitVec 1 := Scalar.andi v1596 v1593
  let v1598 : BitVec 32 := Scalar.addi v1592 v1591
  let v1599 : BitVec 32 := Scalar.select v1597 v1598 v1592
  let c1_i32_1219 : BitVec 32 := 1#32
  let v1634 : BitVec 32 := Scalar.muli v1599 c1_i32_1219
  let v1635 : BitVec 32 := Scalar.addi c0_i32_1220 v1634
  v1635.toNat
def k0_dev54 (d0 : Dev nD) : Nat :=
  let c0_i32_1260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1224 : BitVec 32 := 23#32
  let v1641 : BitVec 32 := Scalar.addi v2 c23_i32_1224
  let c32_i32_1225 : BitVec 32 := 32#32
  let c0_i32_1226 : BitVec 32 := 0#32
  let v1642 : BitVec 1 := Scalar.cmpi .eq c32_i32_1225 c0_i32_1226
  let c1_i32_1227 : BitVec 32 := 1#32
  let v1643 : BitVec 32 := Scalar.select v1642 c1_i32_1227 c32_i32_1225
  let v1644 : BitVec 32 := Scalar.remsi v1641 v1643
  let c0_i32_1229 : BitVec 32 := 0#32
  let v1646 : BitVec 1 := Scalar.cmpi .slt v1644 c0_i32_1229
  let c0_i32_1230 : BitVec 32 := 0#32
  let v1647 : BitVec 1 := Scalar.cmpi .slt v1643 c0_i32_1230
  let v1648 : BitVec 1 := Scalar.xori v1646 v1647
  let c0_i32_1228 : BitVec 32 := 0#32
  let v1645 : BitVec 1 := Scalar.cmpi .ne v1644 c0_i32_1228
  let v1649 : BitVec 1 := Scalar.andi v1648 v1645
  let v1650 : BitVec 32 := Scalar.addi v1644 v1643
  let v1651 : BitVec 32 := Scalar.select v1649 v1650 v1644
  let c1_i32_1259 : BitVec 32 := 1#32
  let v1686 : BitVec 32 := Scalar.muli v1651 c1_i32_1259
  let v1687 : BitVec 32 := Scalar.addi c0_i32_1260 v1686
  v1687.toNat
def k0_dev55 (d0 : Dev nD) : Nat :=
  let c0_i32_1300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1264 : BitVec 32 := 24#32
  let v1693 : BitVec 32 := Scalar.addi v2 c24_i32_1264
  let c32_i32_1265 : BitVec 32 := 32#32
  let c0_i32_1266 : BitVec 32 := 0#32
  let v1694 : BitVec 1 := Scalar.cmpi .eq c32_i32_1265 c0_i32_1266
  let c1_i32_1267 : BitVec 32 := 1#32
  let v1695 : BitVec 32 := Scalar.select v1694 c1_i32_1267 c32_i32_1265
  let v1696 : BitVec 32 := Scalar.remsi v1693 v1695
  let c0_i32_1269 : BitVec 32 := 0#32
  let v1698 : BitVec 1 := Scalar.cmpi .slt v1696 c0_i32_1269
  let c0_i32_1270 : BitVec 32 := 0#32
  let v1699 : BitVec 1 := Scalar.cmpi .slt v1695 c0_i32_1270
  let v1700 : BitVec 1 := Scalar.xori v1698 v1699
  let c0_i32_1268 : BitVec 32 := 0#32
  let v1697 : BitVec 1 := Scalar.cmpi .ne v1696 c0_i32_1268
  let v1701 : BitVec 1 := Scalar.andi v1700 v1697
  let v1702 : BitVec 32 := Scalar.addi v1696 v1695
  let v1703 : BitVec 32 := Scalar.select v1701 v1702 v1696
  let c1_i32_1299 : BitVec 32 := 1#32
  let v1738 : BitVec 32 := Scalar.muli v1703 c1_i32_1299
  let v1739 : BitVec 32 := Scalar.addi c0_i32_1300 v1738
  v1739.toNat
def k0_dev56 (d0 : Dev nD) : Nat :=
  let c0_i32_1340 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1304 : BitVec 32 := 25#32
  let v1745 : BitVec 32 := Scalar.addi v2 c25_i32_1304
  let c32_i32_1305 : BitVec 32 := 32#32
  let c0_i32_1306 : BitVec 32 := 0#32
  let v1746 : BitVec 1 := Scalar.cmpi .eq c32_i32_1305 c0_i32_1306
  let c1_i32_1307 : BitVec 32 := 1#32
  let v1747 : BitVec 32 := Scalar.select v1746 c1_i32_1307 c32_i32_1305
  let v1748 : BitVec 32 := Scalar.remsi v1745 v1747
  let c0_i32_1309 : BitVec 32 := 0#32
  let v1750 : BitVec 1 := Scalar.cmpi .slt v1748 c0_i32_1309
  let c0_i32_1310 : BitVec 32 := 0#32
  let v1751 : BitVec 1 := Scalar.cmpi .slt v1747 c0_i32_1310
  let v1752 : BitVec 1 := Scalar.xori v1750 v1751
  let c0_i32_1308 : BitVec 32 := 0#32
  let v1749 : BitVec 1 := Scalar.cmpi .ne v1748 c0_i32_1308
  let v1753 : BitVec 1 := Scalar.andi v1752 v1749
  let v1754 : BitVec 32 := Scalar.addi v1748 v1747
  let v1755 : BitVec 32 := Scalar.select v1753 v1754 v1748
  let c1_i32_1339 : BitVec 32 := 1#32
  let v1790 : BitVec 32 := Scalar.muli v1755 c1_i32_1339
  let v1791 : BitVec 32 := Scalar.addi c0_i32_1340 v1790
  v1791.toNat
def k0_dev57 (d0 : Dev nD) : Nat :=
  let c0_i32_1380 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1344 : BitVec 32 := 26#32
  let v1797 : BitVec 32 := Scalar.addi v2 c26_i32_1344
  let c32_i32_1345 : BitVec 32 := 32#32
  let c0_i32_1346 : BitVec 32 := 0#32
  let v1798 : BitVec 1 := Scalar.cmpi .eq c32_i32_1345 c0_i32_1346
  let c1_i32_1347 : BitVec 32 := 1#32
  let v1799 : BitVec 32 := Scalar.select v1798 c1_i32_1347 c32_i32_1345
  let v1800 : BitVec 32 := Scalar.remsi v1797 v1799
  let c0_i32_1349 : BitVec 32 := 0#32
  let v1802 : BitVec 1 := Scalar.cmpi .slt v1800 c0_i32_1349
  let c0_i32_1350 : BitVec 32 := 0#32
  let v1803 : BitVec 1 := Scalar.cmpi .slt v1799 c0_i32_1350
  let v1804 : BitVec 1 := Scalar.xori v1802 v1803
  let c0_i32_1348 : BitVec 32 := 0#32
  let v1801 : BitVec 1 := Scalar.cmpi .ne v1800 c0_i32_1348
  let v1805 : BitVec 1 := Scalar.andi v1804 v1801
  let v1806 : BitVec 32 := Scalar.addi v1800 v1799
  let v1807 : BitVec 32 := Scalar.select v1805 v1806 v1800
  let c1_i32_1379 : BitVec 32 := 1#32
  let v1842 : BitVec 32 := Scalar.muli v1807 c1_i32_1379
  let v1843 : BitVec 32 := Scalar.addi c0_i32_1380 v1842
  v1843.toNat
def k0_dev58 (d0 : Dev nD) : Nat :=
  let c0_i32_1420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1384 : BitVec 32 := 27#32
  let v1849 : BitVec 32 := Scalar.addi v2 c27_i32_1384
  let c32_i32_1385 : BitVec 32 := 32#32
  let c0_i32_1386 : BitVec 32 := 0#32
  let v1850 : BitVec 1 := Scalar.cmpi .eq c32_i32_1385 c0_i32_1386
  let c1_i32_1387 : BitVec 32 := 1#32
  let v1851 : BitVec 32 := Scalar.select v1850 c1_i32_1387 c32_i32_1385
  let v1852 : BitVec 32 := Scalar.remsi v1849 v1851
  let c0_i32_1389 : BitVec 32 := 0#32
  let v1854 : BitVec 1 := Scalar.cmpi .slt v1852 c0_i32_1389
  let c0_i32_1390 : BitVec 32 := 0#32
  let v1855 : BitVec 1 := Scalar.cmpi .slt v1851 c0_i32_1390
  let v1856 : BitVec 1 := Scalar.xori v1854 v1855
  let c0_i32_1388 : BitVec 32 := 0#32
  let v1853 : BitVec 1 := Scalar.cmpi .ne v1852 c0_i32_1388
  let v1857 : BitVec 1 := Scalar.andi v1856 v1853
  let v1858 : BitVec 32 := Scalar.addi v1852 v1851
  let v1859 : BitVec 32 := Scalar.select v1857 v1858 v1852
  let c1_i32_1419 : BitVec 32 := 1#32
  let v1894 : BitVec 32 := Scalar.muli v1859 c1_i32_1419
  let v1895 : BitVec 32 := Scalar.addi c0_i32_1420 v1894
  v1895.toNat
def k0_dev59 (d0 : Dev nD) : Nat :=
  let c0_i32_1460 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1424 : BitVec 32 := 28#32
  let v1901 : BitVec 32 := Scalar.addi v2 c28_i32_1424
  let c32_i32_1425 : BitVec 32 := 32#32
  let c0_i32_1426 : BitVec 32 := 0#32
  let v1902 : BitVec 1 := Scalar.cmpi .eq c32_i32_1425 c0_i32_1426
  let c1_i32_1427 : BitVec 32 := 1#32
  let v1903 : BitVec 32 := Scalar.select v1902 c1_i32_1427 c32_i32_1425
  let v1904 : BitVec 32 := Scalar.remsi v1901 v1903
  let c0_i32_1429 : BitVec 32 := 0#32
  let v1906 : BitVec 1 := Scalar.cmpi .slt v1904 c0_i32_1429
  let c0_i32_1430 : BitVec 32 := 0#32
  let v1907 : BitVec 1 := Scalar.cmpi .slt v1903 c0_i32_1430
  let v1908 : BitVec 1 := Scalar.xori v1906 v1907
  let c0_i32_1428 : BitVec 32 := 0#32
  let v1905 : BitVec 1 := Scalar.cmpi .ne v1904 c0_i32_1428
  let v1909 : BitVec 1 := Scalar.andi v1908 v1905
  let v1910 : BitVec 32 := Scalar.addi v1904 v1903
  let v1911 : BitVec 32 := Scalar.select v1909 v1910 v1904
  let c1_i32_1459 : BitVec 32 := 1#32
  let v1946 : BitVec 32 := Scalar.muli v1911 c1_i32_1459
  let v1947 : BitVec 32 := Scalar.addi c0_i32_1460 v1946
  v1947.toNat
def k0_dev60 (d0 : Dev nD) : Nat :=
  let c0_i32_1487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1464 : BitVec 32 := 29#32
  let v1953 : BitVec 32 := Scalar.addi v2 c29_i32_1464
  let c32_i32_1465 : BitVec 32 := 32#32
  let c0_i32_1466 : BitVec 32 := 0#32
  let v1954 : BitVec 1 := Scalar.cmpi .eq c32_i32_1465 c0_i32_1466
  let c1_i32_1467 : BitVec 32 := 1#32
  let v1955 : BitVec 32 := Scalar.select v1954 c1_i32_1467 c32_i32_1465
  let v1956 : BitVec 32 := Scalar.remsi v1953 v1955
  let c0_i32_1469 : BitVec 32 := 0#32
  let v1958 : BitVec 1 := Scalar.cmpi .slt v1956 c0_i32_1469
  let c0_i32_1470 : BitVec 32 := 0#32
  let v1959 : BitVec 1 := Scalar.cmpi .slt v1955 c0_i32_1470
  let v1960 : BitVec 1 := Scalar.xori v1958 v1959
  let c0_i32_1468 : BitVec 32 := 0#32
  let v1957 : BitVec 1 := Scalar.cmpi .ne v1956 c0_i32_1468
  let v1961 : BitVec 1 := Scalar.andi v1960 v1957
  let v1962 : BitVec 32 := Scalar.addi v1956 v1955
  let v1963 : BitVec 32 := Scalar.select v1961 v1962 v1956
  let c1_i32_1486 : BitVec 32 := 1#32
  let v1981 : BitVec 32 := Scalar.muli v1963 c1_i32_1486
  let v1982 : BitVec 32 := Scalar.addi c0_i32_1487 v1981
  v1982.toNat
def k0_dev61 (d0 : Dev nD) : Nat :=
  let c0_i32_1514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1491 : BitVec 32 := 30#32
  let v1988 : BitVec 32 := Scalar.addi v2 c30_i32_1491
  let c32_i32_1492 : BitVec 32 := 32#32
  let c0_i32_1493 : BitVec 32 := 0#32
  let v1989 : BitVec 1 := Scalar.cmpi .eq c32_i32_1492 c0_i32_1493
  let c1_i32_1494 : BitVec 32 := 1#32
  let v1990 : BitVec 32 := Scalar.select v1989 c1_i32_1494 c32_i32_1492
  let v1991 : BitVec 32 := Scalar.remsi v1988 v1990
  let c0_i32_1496 : BitVec 32 := 0#32
  let v1993 : BitVec 1 := Scalar.cmpi .slt v1991 c0_i32_1496
  let c0_i32_1497 : BitVec 32 := 0#32
  let v1994 : BitVec 1 := Scalar.cmpi .slt v1990 c0_i32_1497
  let v1995 : BitVec 1 := Scalar.xori v1993 v1994
  let c0_i32_1495 : BitVec 32 := 0#32
  let v1992 : BitVec 1 := Scalar.cmpi .ne v1991 c0_i32_1495
  let v1996 : BitVec 1 := Scalar.andi v1995 v1992
  let v1997 : BitVec 32 := Scalar.addi v1991 v1990
  let v1998 : BitVec 32 := Scalar.select v1996 v1997 v1991
  let c1_i32_1513 : BitVec 32 := 1#32
  let v2016 : BitVec 32 := Scalar.muli v1998 c1_i32_1513
  let v2017 : BitVec 32 := Scalar.addi c0_i32_1514 v2016
  v2017.toNat
def k0_dev62 (d0 : Dev nD) : Nat :=
  let c0_i32_1541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1518 : BitVec 32 := 31#32
  let v2023 : BitVec 32 := Scalar.addi v2 c31_i32_1518
  let c32_i32_1519 : BitVec 32 := 32#32
  let c0_i32_1520 : BitVec 32 := 0#32
  let v2024 : BitVec 1 := Scalar.cmpi .eq c32_i32_1519 c0_i32_1520
  let c1_i32_1521 : BitVec 32 := 1#32
  let v2025 : BitVec 32 := Scalar.select v2024 c1_i32_1521 c32_i32_1519
  let v2026 : BitVec 32 := Scalar.remsi v2023 v2025
  let c0_i32_1523 : BitVec 32 := 0#32
  let v2028 : BitVec 1 := Scalar.cmpi .slt v2026 c0_i32_1523
  let c0_i32_1524 : BitVec 32 := 0#32
  let v2029 : BitVec 1 := Scalar.cmpi .slt v2025 c0_i32_1524
  let v2030 : BitVec 1 := Scalar.xori v2028 v2029
  let c0_i32_1522 : BitVec 32 := 0#32
  let v2027 : BitVec 1 := Scalar.cmpi .ne v2026 c0_i32_1522
  let v2031 : BitVec 1 := Scalar.andi v2030 v2027
  let v2032 : BitVec 32 := Scalar.addi v2026 v2025
  let v2033 : BitVec 32 := Scalar.select v2031 v2032 v2026
  let c1_i32_1540 : BitVec 32 := 1#32
  let v2051 : BitVec 32 := Scalar.muli v2033 c1_i32_1540
  let v2052 : BitVec 32 := Scalar.addi c0_i32_1541 v2051
  v2052.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S4096x8192, .f32⟩
  | .hbm, ⟨11, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.IdealBody.lean ====
/-
The kernel body as one program over a symbolic step: the signals, the column copies, the products, the sends and the
waits, each stated once for every step `t`, and the theorem that the printed body is this program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.Sem

variable {F : FTy → Type} [FloatOps F]

/-- A program's steps for the members of a list, in order, and then the rest. -/
def runAll {E : Type → Type} : List (Fin 32) → (Fin 32 → Prog E PUnit) → Prog E PUnit → Prog E PUnit
  | [], _, k => k
  | t :: l, f, k => f t >>= fun _ => runAll l f k

/-- The steps `0 … 31`, and those but the first. -/
def steps31 : List (Fin 32) :=
  [1, 2, 3, 4, 5, 6, 7, 8, 9, 10, 11, 12, 13, 14, 15, 16, 17, 18, 19, 20, 21, 22, 23, 24, 25, 26, 27, 28, 29, 30, 31]
def steps32 : List (Fin 32) := 0 :: steps31

/-- The device a step's signal and send address, as the kernel computes it. -/
def devW (t : Fin 32) (d0 : Dev nD) : Nat :=
  let v2 : BitVec 32 := Scalar.remsi (Scalar.divsi (Dev.word d0) 1#32) 32#32
  let v4 : BitVec 32 := Scalar.addi v2 (BitVec.ofNat 32 t.val)
  let v6 : BitVec 32 := Scalar.select (Scalar.cmpi .eq 32#32 0#32) 1#32 32#32
  let v7 : BitVec 32 := Scalar.remsi v4 v6
  let v12 : BitVec 1 := Scalar.andi (Scalar.xori (Scalar.cmpi .slt v7 0#32) (Scalar.cmpi .slt v6 0#32)) (Scalar.cmpi .ne v7 0#32)
  let v14 : BitVec 32 := Scalar.select v12 (Scalar.addi v7 v6) v7
  (Scalar.addi 0#32 (Scalar.muli v14 1#32)).toNat

/-- Step `t` of device `d` addresses device `d + t`, round the mesh. -/
theorem devW_eq : ∀ (t : Fin 32) (d : Dev nD), devW t d = (d.val + t.val) % 32 := by decide +kernel
theorem devW_lt (t : Fin 32) (d : Dev nD) : devW t d < nD := by rw [devW_eq]; exact Nat.mod_lt _ (by decide)

/-- The columns step `t` of device `d` copies begin at 256 times the addressed device. -/
theorem off1_eq : ∀ (t : Fin 32) (d : Dev nD), k0_off1 d (BitVec.ofNat 32 t.val) = ![0, 256 * ((d.val + t.val) % 32)] := by decide +kernel

/-- A rectangle's bounds for the slot and semaphore of each step. -/
theorem inb_slot (t : Fin 32) : ∀ a, (![t.val % 4, 0, 0] : Fin 3 → Nat) a + S1x4096x256.size a ≤ S4x4096x256.size a := by
  revert t; decide
theorem inb_csem (t : Fin 32) : ∀ a, (![t.val % 4] : Fin 1 → Nat) a + S1.size a ≤ S4.size a := by revert t; decide
theorem inb_sbuf (t : Fin 32) : ∀ a, (![t.val, 0, 0] : Fin 3 → Nat) a + S1x128x256.size a ≤ S32x128x256.size a := by
  revert t; decide
theorem inb_ssem (t : Fin 32) : ∀ a, (![t.val] : Fin 1 → Nat) a + S1.size a ≤ S32.size a := by revert t; decide

section Parts
variable (arg0 : Memref sig .tc .vmem S128x4096 .f32) (arg1 : Memref sig .tc .hbm S4096x8192 .f32)
  (arg2 : Memref sig .tc .smem S1 .f32) (arg3 : Memref sig .tc .smem S1 .f32) (arg4 : Memref sig .tc .vmem S4096x256 .f32)
  (arg5 : Memref sig .tc .vmem S4x4096x256 .f32) (arg6 : Memref sig .tc .vmem S32x128x256 .f32)
  (arg7 : DmaSems sig S4) (arg8 : DmaSems sig S32) (arg9 : DmaSems sig S_)

/-- The regular semaphore of the mesh-wide entry handshake. -/
abbrev barS : Sem sig := (SemArray.scalar (sig.barrier 0 rfl) : Sems sig S_).sem

/-- The columns of the weights device `d` reads at step `t`; -/
abbrev wCol (d : Dev nD) (t : Fin 32) : Memref sig .tc .hbm S4096x256 .f32 :=
  arg1.slice (Rect.unit (s := S4096x8192) (k0_off1 d (BitVec.ofNat 32 t.val)) S4096x256.size (k0_off1_inb d t)) (fun _ => rfl)
/-- the slot of the weights' ring buffer they are copied to, as the rectangle and as a memref; -/
abbrev slotR (t : Fin 32) : Rect S4x4096x256 := Rect.unit (s := S4x4096x256) ![t.val % 4, 0, 0] S1x4096x256.size (inb_slot t)
abbrev slot (t : Fin 32) : Memref sig .tc .vmem S4096x256 .f32 :=
  (arg5.slice (slotR t) (fun _ => rfl)).squeeze S4096x256 squeezes_S1x4096x256_S4096x256
/-- the copy's semaphore. -/
abbrev cSem (t : Fin 32) : DmaSem sig := ((arg7.slice (Rect.unit (s := S4) ![t.val % 4] S1.size (inb_csem t))).squeeze S_ squeezes_S1_S_).sem

/-- The slot of the send buffer step `t` sends from, as the rectangle and as a memref; -/
abbrev sbufR (t : Fin 32) : Rect S32x128x256 := Rect.unit (s := S32x128x256) ![t.val, 0, 0] S1x128x256.size (inb_sbuf t)
abbrev sbuf (t : Fin 32) : Memref sig .tc .vmem S128x256 .f32 :=
  (arg6.slice (sbufR t) (fun _ => rfl)).squeeze S128x256 squeezes_S1x128x256_S128x256
/-- the send's semaphore; -/
abbrev sSem (t : Fin 32) : DmaSem sig := ((arg8.slice (Rect.unit (s := S32) ![t.val] S1.size (inb_ssem t))).squeeze S_ squeezes_S1_S_).sem
/-- the rows of a result block that device `d` writes, as the rectangles and as a memref. -/
abbrev ownR (d : Dev nD) : Rect S4096x256 := Rect.unit (s := S4096x256) (k0_off2 d) S128x256.size (k0_off2_inb d)
abbrev rowR (d : Dev nD) : Rect S4096x256 := Rect.unit (s := S4096x256) (k0_off3 d) S128x256.size (k0_off3_inb d)
abbrev rowM (d : Dev nD) : Memref sig .tc .vmem S128x256 .f32 := arg4.slice (rowR d) (fun _ => rfl)

/-- Step `t`'s signal of the entry handshake. -/
def sigP (d : Dev nD) (t : Fin 32) : Prog (TpuEff nD τ sig (Elt F) Λ₀ .tc) PUnit :=
  semSignalWord (⟨devW t d, devW_lt t d⟩ : Dev nD) barS 1#32

/-- Step `t`'s column copy begun; -/
def startP (d : Dev nD) (t : Fin 32) : Prog (TpuEff nD τ sig (Elt F) Λ₀ .tc) PUnit :=
  Prog.lift (.enqueueDma (wCol arg1 d t) (.here (slot arg5 t)) (.dma (cSem arg7 t)) (View.wordExact_bits rfl)
    ((View.wordExact_bits rfl).reshape _ _) ⟨Or.inl rfl, trivial⟩)
/-- and awaited. -/
def waitP (d : Dev nD) (t : Fin 32) : Prog (TpuEff nD τ sig (Elt F) Λ₀ .tc) PUnit :=
  Prog.lift (.waitDma2 (cSem arg7 t) (wCol arg1 d t) (slot arg5 t) (View.wordExact_bits rfl) ((View.wordExact_bits rfl).reshape _ _))

/-- The product block of step `0`, stored in the device's own result rows. -/
def keepP (d : Dev nD) (v409 : F .f32) (v412 : FVec F S128x4096 .fp8e5m2) (w : Vec F S1x4096x256 .f32) :
    Prog (TpuEff nD τ sig (Elt F) Λ₀ .tc) PUnit := do
  let _ : Vec F S128x256 .f32 ← Prog.lift (.load arg4 (ownR d).toLoadRect (View.loadsAt_vmem h_S128x256))
  Prog.lift (.store arg4 (ownR d) (k0_pay3 v409 v412 w) Finset.univ (View.stores_vmem_bits_univ h_S128x256 rfl) (.inl rfl))

/-- The product block of a later step, stored in its slot of the send buffer and sent. -/
def sendP (d : Dev nD) (t : Fin 32) (v409 : F .f32) (v412 : FVec F S128x4096 .fp8e5m2) (w : Vec F S1x4096x256 .f32) :
    Prog (TpuEff nD τ sig (Elt F) Λ₀ .tc) PUnit := do
  let _ : Vec F S1x128x256 .f32 ← Prog.lift (.load arg6 (sbufR t).toLoadRect (View.loadsAt_vmem h_S1x128x256))
  Prog.lift (.store arg6 (sbufR t) (k0_pay4 v409 v412 w) Finset.univ (View.stores_vmem_bits_univ h_S1x128x256 rfl) (.inl rfl))
  Prog.lift (.enqueueDma (sbuf arg6 t) (.remote (Dev.tc (⟨devW t d, devW_lt t d⟩ : Dev nD)) (rowM arg4 d) (.dma (sSem arg8 t)))
    (.dma arg9.sem) ((View.wordExact_bits rfl).reshape _ _) (View.wordExact_bits rfl) ⟨⟨rfl, Or.inl rfl⟩, trivial⟩)

/-- Step `t`: the copy three steps ahead begun, its own awaited and read, the product stored and sent. -/
def iterP (d : Dev nD) (v409 : F .f32) (v412 : FVec F S128x4096 .fp8e5m2) (t : Fin 32) : Prog (TpuEff nD τ sig (Elt F) Λ₀ .tc) PUnit :=
  (if h : t.val + 3 < 32 then startP arg1 arg5 arg7 d ⟨t.val + 3, h⟩ else pure ⟨⟩) >>= fun _ =>
  waitP arg1 arg5 arg7 d t >>= fun _ =>
  Prog.lift (.load arg5 (slotR t).toLoadRect (View.loadsAt_vmem h_S1x4096x256)) >>= fun (w : Vec F S1x4096x256 .f32) =>
  if t.val = 0 then keepP arg4 d v409 v412 w else sendP arg4 arg6 arg8 arg9 d t v409 v412 w

/-- The wait for step `t`'s send to have left; -/
def sentP (d : Dev nD) (t : Fin 32) : Prog (TpuEff nD τ sig (Elt F) Λ₀ .tc) PUnit :=
  Prog.lift (.waitDma2 (sSem arg8 t) (rowM arg4 d) (sbuf arg6 t) (View.wordExact_bits rfl) ((View.wordExact_bits rfl).reshape _ _))
/-- and one of the waits for the other devices' blocks to have come. -/
def recvP : Prog (TpuEff nD τ sig (Elt F) Λ₀ .tc) PUnit :=
  Prog.lift (.waitDma2 arg9.sem (sbuf arg6 0)
    (arg4.slice (Rect.unit (s := S4096x256) ![0, 0] S128x256.size inb_S4096x256_S128x256_0_0) (fun _ => rfl))
    ((View.wordExact_bits rfl).reshape _ _) (View.wordExact_bits rfl))

/-- The whole body. -/
def bodyP : Prog (TpuEff nD τ sig (Elt F) Λ₀ .tc) PUnit :=
  Prog.lift .deviceId >>= fun d =>
  runAll steps31 (sigP d) <|
  semWaitWord barS 31#32 >>= fun _ =>
  smemLoad arg2 (Rect.unit (s := S1) ![0] S1.size inb_S1_S1_0) numel1_S1 rfl >>= fun (v407 : Elt F .f32) =>
  smemLoad arg3 (Rect.unit (s := S1) ![0] S1.size inb_S1_S1_0) numel1_S1 rfl >>= fun (v408 : Elt F .f32) =>
  Prog.lift (.load arg0 (Rect.unit (s := S128x4096) ![0, 0] S128x4096.size inb_S128x4096_S128x4096_0_0).toLoadRect
    (View.loadsAt_vmem h_S128x4096)) >>= fun (v410 : Vec F S128x4096 .f32) =>
  startP arg1 arg5 arg7 d 0 >>= fun _ => startP arg1 arg5 arg7 d 1 >>= fun _ => startP arg1 arg5 arg7 d 2 >>= fun _ =>
  runAll steps32 (iterP arg1 arg4 arg5 arg6 arg7 arg8 arg9 d (k0_pay1 v407 v408) (k0_pay2 v410)) <|
  runAll steps31 (sentP arg4 arg6 arg8 d) <|
  runAll steps31 (fun _ => recvP arg4 arg6 arg9) <|
  pure ⟨⟩

set_option maxHeartbeats 4000000 in
/-- The printed body is that program. -/
theorem body_eq (harg0 : arg0.IsWhole) (harg1 : arg1.IsWhole) (harg2 : arg2.IsWhole) (harg3 : arg3.IsWhole) (harg4 : arg4.IsWhole)
    (harg5 : arg5.IsWhole) (harg6 : arg6.IsWhole) :
    cc0_body (F := F) arg0 harg0 arg1 harg1 arg2 harg2 arg3 harg3 arg4 harg4 arg5 harg5 arg6 harg6 arg7 arg8 arg9
      = bodyP arg0 arg1 arg2 arg3 arg4 arg5 arg6 arg7 arg8 arg9 := by
  chain_rfl

end Parts

end Cert.KernelIdeal.Mesh

end
-- ==== Proof.IdealSched.lean ====
/-
The mesh's protocol: which semaphore cells the devices share, what each payment into them hands over, what every device
owes when the kernel is entered, and the contents the kernel computes.
-/
module

public import proofs.«01_k».proof.Proof.IdealBody
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.VecWindow
public import Idealize.ShloMosaic.Lib.SparseCore.ProtocolKit
public import Idealize.ShloMosaic.Lib.Tactic

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit (finFrom finUpTo)

variable {F : FTy → Type} [FloatOps F]

/-- The ghost state: the pipeline's rounds, the mesh's rounds with duties named by steps, and the counters of the copies
    within a device. -/
abbrev UB : Type := URounds (GSem nD τ sig) (Fin 32)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb
abbrev 𝒱₀ : Variants := Variants.none

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## Devices round the mesh -/

/-- The device `t` steps after `c`, the step backwards, and the step that leads from `d` to `c`. -/
def peer (c : Dev nD) (t : Fin 32) : Dev nD := ⟨(c.val + t.val) % 32, Nat.mod_lt _ (by decide)⟩
def back (t : Fin 32) : Fin 32 := ⟨(32 - t.val) % 32, Nat.mod_lt _ (by decide)⟩
def dist (d c : Dev nD) : Fin 32 := ⟨(c.val + 32 - d.val) % 32, Nat.mod_lt _ (by decide)⟩

theorem peer_back (c : Dev nD) (t : Fin 32) : peer (peer c t) (back t) = c :=
  Fin.ext (by have : c.val < 32 := c.isLt; have := t.isLt; show ((c.val + t.val) % 32 + (32 - t.val) % 32) % 32 = c.val; omega)
theorem back_back (t : Fin 32) : back (back t) = t :=
  Fin.ext (by have := t.isLt; show (32 - (32 - t.val) % 32) % 32 = t.val; omega)
theorem back_ne_zero {t : Fin 32} (h : t ≠ 0) : back t ≠ 0 := fun e => h (by rw [← back_back t, e]; rfl)
theorem dist_peer (c : Dev nD) (t : Fin 32) : dist c (peer c t) = t :=
  Fin.ext (by have : c.val < 32 := c.isLt; have := t.isLt; show ((c.val + t.val) % 32 + 32 - c.val) % 32 = t.val; omega)
theorem peer_dist (d c : Dev nD) : peer d (dist d c) = c :=
  Fin.ext (by have : c.val < 32 := c.isLt; have : d.val < 32 := d.isLt; show (d.val + (c.val + 32 - d.val) % 32) % 32 = c.val; omega)
theorem dist_of_peer (c : Dev nD) (u : Fin 32) : dist (peer c u) c = back u :=
  Fin.ext (by have : c.val < 32 := c.isLt; have := u.isLt; show (c.val + 32 - (c.val + u.val) % 32) % 32 = (32 - u.val) % 32; omega)
theorem peer_zero (c : Dev nD) : peer c 0 = c := Fin.ext (by have : c.val < 32 := c.isLt; show (c.val + 0) % 32 = c.val; omega)

/-- Going round from `c`, every device is met once. -/
def around (c : Dev nD) : Fin 32 ≃ Dev nD := ⟨peer c, dist c, dist_peer c, peer_dist c⟩
/-- A device and a step from it, seen from the other end. -/
def flip : Dev nD × Fin 32 ≃ Dev nD × Fin 32 :=
  ⟨fun x => (peer x.1 x.2, back x.2), fun x => (peer x.1 x.2, back x.2),
    fun x => Prod.ext (peer_back x.1 x.2) (back_back x.2), fun x => Prod.ext (peer_back x.1 x.2) (back_back x.2)⟩

/-- The device a step addresses. -/
theorem dev_eq (c : Dev nD) (t : Fin 32) : (⟨devW t c, devW_lt t c⟩ : Dev nD) = peer c t := Fin.ext (devW_eq t c)

/-! ## Memrefs and cells -/

abbrev xM : Memref sig .tc .vmem S128x4096 .f32 := Memref.whole cc0_stg0_0
abbrev wM : Memref sig .tc .hbm S4096x8192 .f32 := Memref.whole main_arg1
abbrev aM : Memref sig .tc .smem S1 .f32 := Memref.whole cc0_stg1_0
abbrev bM : Memref sig .tc .smem S1 .f32 := Memref.whole cc0_stg2_0
abbrev oM : Memref sig .tc .vmem S4096x256 .f32 := Memref.whole cc0_stg3_0
abbrev rM : Memref sig .tc .vmem S4x4096x256 .f32 := Memref.whole cc0_scratch0
abbrev sM : Memref sig .tc .vmem S32x128x256 .f32 := Memref.whole cc0_scratch1

abbrev barCell (c : Dev nD) : GSem nD τ sig := ((c : Thread nD τ), .reg barS)
abbrev recvCell (c : Dev nD) : GSem nD τ sig := ((c : Thread nD τ), .dma cc0_scratch4.sem)
abbrev sendCell (c : Dev nD) (t : Fin 32) : GSem nD τ sig := ((c : Thread nD τ), .dma (sSem cc0_scratch3 t))
abbrev copyCell (c : Dev nD) (t : Fin 32) : GSem nD τ sig := ((c : Thread nD τ), .dma (cSem cc0_scratch2 t))

/-- The credit of one block of 128 rows, and of one slice of 256 columns. -/
abbrev NB : ℕ := (rowM oM (0 : Dev nD)).view.dmaCredit
abbrev NW : ℕ := (slot rM (0 : Fin 32)).view.dmaCredit
theorem NB_pos : 0 < NB := View.dmaCredit_pos _ (by decide)
theorem NW_pos : 0 < NW := View.dmaCredit_pos _ (by decide)

/-! ## Contents -/

/-- The rows of `x` and the two scales as staged on device `c`; -/
def xin (c : Dev nD) : (cc0_stg0_0 : Ref sig .tc).ty.Contents (Elt F) :=
  (win0_0.blk (0 : Fin 1)).view.read (Elt F) (m ((c : Thread nD τ).loc main_arg0))
def ain (c : Dev nD) : (cc0_stg1_0 : Ref sig .tc).ty.Contents (Elt F) :=
  (win0_1.blk (0 : Fin 1)).view.read (Elt F) (m ((c : Thread nD τ).loc main_arg2))
def bin (c : Dev nD) : (cc0_stg2_0 : Ref sig .tc).ty.Contents (Elt F) :=
  (win0_2.blk (0 : Fin 1)).view.read (Elt F) (m ((c : Thread nD τ).loc main_arg3))
/-- the columns of the weights that device `c` reads at step `t`. -/
def wcol (c : Dev nD) (t : Fin 32) : S4096x256.Idx → Elt F .f32 :=
  (wCol wM c t).view.read (Elt F) (m ((c : Thread nD τ).loc main_arg1))

/-- The product block of rows `x` and columns `w`, scaled by `s` and cut at zero. -/
def pay (s : F .f32) (x : FVec F S128x4096 .fp8e5m2) (w : Vec F S4096x256 .f32) : Vec F S128x256 .f32 :=
  maximumf (mulf (matmul dot_S128x4096_S4096x256_S128x256_1_0_0_1_n_n none x (truncf .fp8e5m2 w bitsLt_fp8e5m2_f32)
    (constant S128x256 .f32 0x00000000#32)) (broadcast S128x256 s)) (broadcast S128x256 (Scalar.ofBits .f32 0x00000000#32))

theorem pay3_eq (s : F .f32) (x : FVec F S128x4096 .fp8e5m2) (w : Vec F S1x4096x256 .f32) (X : Vec F S4096x256 .f32)
    (h : shapeCast S4096x256 w shapeCasts_S1x4096x256_S4096x256 = X) : k0_pay3 s x w = pay s x X := by subst h; rfl
theorem pay4_eq (s : F .f32) (x : FVec F S128x4096 .fp8e5m2) (w : Vec F S1x4096x256 .f32) (X : Vec F S4096x256 .f32)
    (h : shapeCast S4096x256 w shapeCasts_S1x4096x256_S4096x256 = X) :
    k0_pay4 s x w = shapeCast S1x128x256 (pay s x X) shapeCasts_S128x256_S1x128x256 := by subst h; rfl

/-- The product of the two scales on device `c`. -/
abbrev oneR : Rect S1 := Rect.unit (s := S1) ![0] S1.size inb_S1_S1_0
def scale (c : Dev nD) : F .f32 := k0_pay1
  ((aM.access oneR).read (Elt F) (ain m c) (Shape.Idx.first (numel1_S1.symm ▸ Nat.one_pos)))
  ((bM.access oneR).read (Elt F) (bin m c) (Shape.Idx.first (numel1_S1.symm ▸ Nat.one_pos)))

/-- The block device `c` computes at step `t`: its rows of the result in the columns of device `c + t`. -/
def zblk (c : Dev nD) (t : Fin 32) : Vec F S128x256 .f32 := pay (scale m c) (k0_pay2 (xin m c)) (wcol m c t)

/-- The place of a position of the result within its block of 128 rows. -/
def inBlk (j : S4096x256.Idx) : S128x256.Idx
  | (0 : Fin 2) => ⟨(j (0 : Fin 2)).val % 128, Nat.mod_lt _ (by decide)⟩
  | (1 : Fin 2) => ⟨(j (1 : Fin 2)).val, (j (1 : Fin 2)).isLt⟩

/-- The result on device `c`: the rows of device `d` are the block `d` computed for `c`. -/
def outAt (c : Dev nD) : (cc0_stg3_0 : Ref sig .tc).ty.Contents (Elt F) := fun j =>
  zblk m ⟨(j (0 : Fin 2)).val / 128, Nat.div_lt_of_lt_mul (j (0 : Fin 2)).isLt⟩
    (dist ⟨(j (0 : Fin 2)).val / 128, Nat.div_lt_of_lt_mul (j (0 : Fin 2)).isLt⟩ c)
    (inBlk j)

/-- The result read at the rows of device `d`. -/
theorem outAt_rows (c d : Dev nD) : (fun j => outAt m c ((rowR d).emb j)) = zblk m d (dist d c) := by
  funext j
  have hd : (⟨((rowR d).emb j (0 : Fin 2)).val / 128, Nat.div_lt_of_lt_mul ((rowR d).emb j (0 : Fin 2)).isLt⟩ : Dev nD) = d := by
    refine Fin.ext ?_
    have h0 : ((rowR d).emb j (0 : Fin 2)).val = k0_off3 d 0 + 1 * (j (0 : Fin 2)).val := rfl
    have := (j (0 : Fin 2)).isLt
    have h1 : (j (0 : Fin 2)).val < 128 := this
    rw [k0_off3_eq] at h0
    have h2 : ((rowR d).emb j (0 : Fin 2)).val = 128 * d.val + 1 * (j (0 : Fin 2)).val := h0
    show ((rowR d).emb j (0 : Fin 2)).val / 128 = d.val
    rw [h2]; omega
  have hj : inBlk ((rowR d).emb j) = j := by
    funext a
    have h1 : (j (0 : Fin 2)).val < 128 := (j (0 : Fin 2)).isLt
    match a with
    | (0 : Fin 2) =>
      refine Fin.ext ?_
      have h0 : ((rowR d).emb j (0 : Fin 2)).val = k0_off3 d 0 + 1 * (j (0 : Fin 2)).val := rfl
      rw [k0_off3_eq] at h0
      have h2 : ((rowR d).emb j (0 : Fin 2)).val = 128 * d.val + 1 * (j (0 : Fin 2)).val := h0
      show ((rowR d).emb j (0 : Fin 2)).val % 128 = (j (0 : Fin 2)).val
      rw [h2]; omega
    | (1 : Fin 2) =>
      refine Fin.ext ?_
      have h0 : ((rowR d).emb j (1 : Fin 2)).val = k0_off3 d 1 + 1 * (j (1 : Fin 2)).val := rfl
      rw [k0_off3_eq] at h0
      have h2 : ((rowR d).emb j (1 : Fin 2)).val = 0 + 1 * (j (1 : Fin 2)).val := h0
      show ((rowR d).emb j (1 : Fin 2)).val = (j (1 : Fin 2)).val
      rw [h2]; omega
  unfold outAt
  simp only [hd]
  exact congrArg (zblk m d (dist d c)) hj

/-! ## What the payments hand over -/

/-- The rows that `s` writes of `c`'s result, at any contents; at the contents the kernel computes; and a slot of the send
    buffer at any contents. -/
def rowsAny (c s : Dev nD) : sProp 𝕄 := iprop(∃ f, (rowM oM s).view.loc (c : Thread nD τ) ↦[(rowM oM s).view.set]{fullShare} f)
def rowsAt (c s : Dev nD) : sProp 𝕄 := owns (c : Thread nD τ) (rowM oM s) fullShare (zblk m s (dist s c))
def sbufAny (c : Dev nD) (t : Fin 32) : sProp 𝕄 := iprop(∃ f, (sbuf sM t).view.loc (c : Thread nD τ) ↦[(sbuf sM t).view.set]{fullShare} f)

instance rowsAny_storable (c s : Dev nD) : BI.Storable (upEmb : UEmb _ 𝕄) (rowsAny (F := F) c s) := by unfold rowsAny; infer_instance
instance rowsAt_storable (c s : Dev nD) : BI.Storable (upEmb : UEmb _ 𝕄) (rowsAt m c s) := by unfold rowsAt; infer_instance
instance sbufAny_storable (c : Dev nD) (t : Fin 32) : BI.Storable (upEmb : UEmb _ 𝕄) (sbufAny (F := F) c t) := by unfold sbufAny; infer_instance

/-- The step a send cell belongs to. -/
def sendStep (sm : SemLoc sig) : Option (Fin 32) := (List.finRange 32).find? fun t => sm = .dma (sSem cc0_scratch3 t)

theorem sendStep_send : ∀ t : Fin 32, sendStep (.dma (sSem cc0_scratch3 t)) = some t := by decide +kernel
theorem recv_ne_bar : (SemLoc.dma cc0_scratch4.sem : SemLoc sig) ≠ .reg barS := fun h => by cases h
theorem send_ne_bar (t : Fin 32) : (SemLoc.dma (sSem cc0_scratch3 t) : SemLoc sig) ≠ .reg barS := fun h => by cases h
theorem send_ne_recv : ∀ t : Fin 32, (SemLoc.dma (sSem cc0_scratch3 t) : SemLoc sig) ≠ .dma cc0_scratch4.sem := by decide +kernel
theorem copy_ne_recv : ∀ t : Fin 32, (SemLoc.dma (cSem cc0_scratch2 t) : SemLoc sig) ≠ .dma cc0_scratch4.sem := by decide +kernel

/-- What the payment under a duty hands the owner of the cell. -/
def payAt (g : GSem nD τ sig) (u : Fin 32) : sProp 𝕄 :=
  if g.2 = .reg barS then rowsAny (peer g.1.1 u) g.1.1
  else if g.2 = .dma cc0_scratch4.sem then rowsAt m g.1.1 (peer g.1.1 u)
  else match sendStep g.2 with
    | some t => sbufAny g.1.1 t
    | none => iprop(emp)

/-- The duties of a cell's one round: at a handshake or a receive cell one for every other device; at a send cell of a
    step but the first, one. -/
def dutiesAt (g : GSem nD τ sig) : Finset (Fin 32) :=
  if g.1.2 = .tc then
    if g.2 = .reg barS ∨ g.2 = .dma cc0_scratch4.sem then finFrom 32 1
    else match sendStep g.2 with
      | some t => if t = 0 then ∅ else {0}
      | none => ∅
  else ∅

/-- The protocol: one round. -/
def sched : Rounds.Schedule (GSem nD τ sig) (Fin 32) 𝕄 where
  duties g r := if r = 0 then dutiesAt g else ∅
  unitless _ := False
  amount g _ _ := if g.2 = .reg barS then 1 else NB
  payload g _ u := payAt m g u
  amount_pos g _ _ _ := by
    by_cases h : g.2 = .reg barS
    · rw [if_pos h]; exact Nat.one_pos
    · rw [if_neg h]; exact NB_pos

instance sched_payload_storable (g : GSem nD τ sig) (r : ℕ) (u : Fin 32) :
    BI.Storable (upEmb : UEmb _ 𝕄) ((sched (F := F) m).payload g r u) := by
  show BI.Storable upEmb (payAt m g u)
  unfold payAt
  (repeat' split) <;> infer_instance

section Sched
variable (c : Dev nD)

theorem duties_later (g : GSem nD τ sig) : ∀ r, 1 ≤ r → (sched m).duties g r = ∅ :=
  fun r hr => by dsimp only [sched]; exact if_neg (by omega)
theorem duties_bar : (sched m).duties (barCell c) 0 = finFrom 32 1 := by
  dsimp only [sched, dutiesAt]; rw [if_pos rfl, if_pos rfl, if_pos (Or.inl rfl)]
theorem duties_recv : (sched m).duties (recvCell c) 0 = finFrom 32 1 := by
  dsimp only [sched, dutiesAt]; rw [if_pos rfl, if_pos rfl, if_pos (Or.inr rfl)]
theorem duties_send {t : Fin 32} (ht : t ≠ 0) : (sched m).duties (sendCell c t) 0 = {0} := by
  dsimp only [sched, dutiesAt]
  rw [if_pos rfl, if_pos rfl, if_neg (fun h => h.elim (send_ne_bar t) (send_ne_recv t)), sendStep_send]
  exact if_neg ht
theorem duties_send_zero : ∀ r, 0 ≤ r → (sched m).duties (sendCell c 0) r = ∅ := fun r _ => by
  by_cases hr : r = 0
  · subst hr
    dsimp only [sched, dutiesAt]
    rw [if_pos rfl, if_pos rfl, if_neg (fun h => h.elim (send_ne_bar 0) (send_ne_recv 0)), sendStep_send]
    exact if_pos rfl
  · exact duties_later m _ r (by omega)

theorem amount_bar (u : Fin 32) : (sched m).amount (barCell c) 0 u = 1 := by dsimp only [sched]; exact if_pos rfl
theorem amount_recv (u : Fin 32) : (sched m).amount (recvCell c) 0 u = NB := by dsimp only [sched]; exact if_neg recv_ne_bar
theorem amount_send (t u : Fin 32) : (sched m).amount (sendCell c t) 0 u = NB := by dsimp only [sched]; exact if_neg (send_ne_bar t)

theorem card_duties : (finFrom 32 1).card = 31 := by decide

theorem expect_bar : (sched m).expect (barCell c) 0 = 31 := by
  unfold Schedule.expect Schedule.amountOf
  rw [duties_bar, Finset.sum_congr rfl fun d _ => amount_bar m c d, Finset.sum_const, card_duties, smul_eq_mul]
theorem expect_recv : (sched m).expect (recvCell c) 0 = 31 * NB := by
  unfold Schedule.expect Schedule.amountOf
  rw [duties_recv, Finset.sum_congr rfl fun d _ => amount_recv m c d, Finset.sum_const, card_duties, smul_eq_mul]
theorem expect_send {t : Fin 32} (ht : t ≠ 0) : (sched m).expect (sendCell c t) 0 = NB := by
  unfold Schedule.expect Schedule.amountOf; rw [duties_send m c ht, Finset.sum_singleton, amount_send]

theorem payload_bar (u : Fin 32) :
    (sched m).payload (barCell c) 0 u = rowsAny (peer c u) c := by
  dsimp only [sched, payAt]; exact if_pos rfl
theorem payload_recv (u : Fin 32) : (sched m).payload (recvCell c) 0 u = rowsAt m c (peer c u) := by
  dsimp only [sched, payAt]; rw [if_neg recv_ne_bar, if_pos rfl]
theorem payload_send (t u : Fin 32) : (sched m).payload (sendCell c t) 0 u = sbufAny c t := by
  dsimp only [sched, payAt]; rw [if_neg (send_ne_bar t), if_neg (send_ne_recv t), sendStep_send]

end Sched

/-! ## What each device owes at launch; the levels -/

/-- The credit of the blocks device `c` sends from step `n` on, and its signals from step `n` on. -/
def owR (c : Dev nD) (n : ℕ) : CellTallies nD τ sig Unit := ∑ t ∈ finFrom 32 n, tallyAt (recvCell (peer c t)) () NB
def owB (c : Dev nD) (n : ℕ) : CellTallies nD τ sig Unit := ∑ t ∈ finFrom 32 n, tallyAt (barCell (peer c t)) () 1
def O₀ (c : Dev nD) : CellTallies nD τ sig Unit := owR c 1 + owB c 1

theorem owR_step (c : Dev nD) (t : Fin 32) : owR c t.val = owR c (t.val + 1) + tallyAt (recvCell (peer c t)) () NB :=
  SparseCore.ProtocolKit.sum_finFrom_succ t.isLt _
theorem owB_step (c : Dev nD) (t : Fin 32) : owB c t.val = owB c (t.val + 1) + tallyAt (barCell (peer c t)) () 1 :=
  SparseCore.ProtocolKit.sum_finFrom_succ t.isLt _
theorem owR_end (c : Dev nD) : owR c 32 = 0 := SparseCore.ProtocolKit.sum_finFrom_self _
theorem owB_end (c : Dev nD) : owB c 32 = 0 := SparseCore.ProtocolKit.sum_finFrom_self _

theorem owR_apply (c : Dev nD) (n : ℕ) (g : GSem nD τ sig) (u : Unit) :
    owR c n g u = ∑ t ∈ finFrom 32 n, (if g = recvCell (peer c t) then NB else 0) := by
  unfold owR; rw [Finset.sum_apply, Finsupp.finsetSum_apply]
  exact Finset.sum_congr rfl fun t _ => by rw [tallyAt_apply]; simp
theorem owB_apply (c : Dev nD) (n : ℕ) (g : GSem nD τ sig) (u : Unit) :
    owB c n g u = ∑ t ∈ finFrom 32 n, (if g = barCell (peer c t) then 1 else 0) := by
  unfold owB; rw [Finset.sum_apply, Finsupp.finsetSum_apply]
  exact Finset.sum_congr rfl fun t _ => by rw [tallyAt_apply]; simp

theorem owR_pos {c : Dev nD} {n : ℕ} {g : GSem nD τ sig} {u : Unit} (h : 0 < owR c n g u) : ∃ d, g = recvCell d := by
  rw [owR_apply] at h
  obtain ⟨t, -, ht⟩ := Finset.exists_ne_zero_of_sum_ne_zero h.ne'
  by_contra hn
  exact ht (if_neg fun e => hn ⟨_, e⟩)
theorem owB_pos {c : Dev nD} {n : ℕ} {g : GSem nD τ sig} {u : Unit} (h : 0 < owB c n g u) : ∃ d, g = barCell d := by
  rw [owB_apply] at h
  obtain ⟨t, -, ht⟩ := Finset.exists_ne_zero_of_sum_ne_zero h.ne'
  by_contra hn
  exact ht (if_neg fun e => hn ⟨_, e⟩)

def L (g : GSem nD τ sig) : Finset Unit := if g.1.2 = .tc then {()} else ∅
/-- The receive cells lie above the handshake cells, these above all others. -/
def lv (g : GSem nD τ sig) (_ : Unit) : ℕ := if g.2 = .reg barS then 1 else if g.2 = .dma cc0_scratch4.sem then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (u : Unit) : lv (recvCell c) u = 2 := by unfold lv; rw [if_neg recv_ne_bar, if_pos rfl]

/-- A device owing blocks and signals may wait on a copy of its own. -/
theorem mayWait_dma (c : Dev nD) (q : DmaSem sig) (hq : SemLoc.dma q ≠ .dma cc0_scratch4.sem) (n n' : ℕ) :
    (levAts L lv : sProp 𝕄) ⊢ MayWait (c : Thread nD τ) (.dma q) () (owR c n + owB c n') := by
  have hp : ∀ {g : GSem nD τ sig} {u : Unit}, 0 < (owR c n + owB c n') g u → (∃ d, g = recvCell d) ∨ ∃ d, g = barCell d := by
    intro g u h
    rw [Pi.add_apply, Finsupp.add_apply] at h
    rcases Nat.eq_zero_or_pos (owR c n g u) with h0 | h0
    · exact Or.inr (owB_pos (c := c) (n := n') (u := u) (by omega))
    · exact Or.inl (owR_pos h0)
  refine MayOwe.of_cut (L := L) (lev := lv) 0 (fun p hp => by rw [Finset.mem_singleton.mp hp, L_tc]; exact Finset.mem_singleton_self _)
    (fun g u hg => by rcases hp hg with ⟨d, rfl⟩ | ⟨d, rfl⟩ <;> exact Finset.mem_singleton_self _)
    (fun p hp => by rw [Finset.mem_singleton.mp hp]; dsimp only [lv]; rw [if_neg (fun h => by cases h), if_neg hq])
    (fun g u hg => by
      rcases hp hg with ⟨d, rfl⟩ | ⟨d, rfl⟩
      · rw [lv_recv]; decide
      · rw [lv_bar]; decide)

/-- A device owing only blocks may wait at its handshake. -/
theorem mayWait_bar (c : Dev nD) : (levAts L lv : sProp 𝕄) ⊢ MayWait (c : Thread nD τ) (.reg barS) () (owR c 1) :=
  MayOwe.of_cut (L := L) (lev := lv) 1 (fun p hp => by rw [Finset.mem_singleton.mp hp, L_tc]; exact Finset.mem_singleton_self _)
    (fun g u hg => by obtain ⟨d, rfl⟩ := owR_pos hg; exact Finset.mem_singleton_self _)
    (fun p hp => by rw [Finset.mem_singleton.mp hp]; dsimp only [lv]; rw [if_pos rfl])
    (fun g u hg => by obtain ⟨d, rfl⟩ := owR_pos hg; rw [lv_recv]; decide)

end Cert.KernelIdeal.Mesh

end
-- ==== Proof.IdealSteps.lean ====
/-
Each of the kernel's repeated steps, proved once for any step and device: the resources it takes and those it leaves.
-/
module

public import proofs.«01_k».proof.Proof.IdealSched
public import Idealize.ShloMosaic.Lib.Pipeline.Value

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit Idealize.ShloMosaic.Transfers

variable {F : FTy → Type} [FloatOps F]

local notation "𝕄" => MT nD τ sig Unit (Elt F) ℕ UU ℕ

variable (m : (ℓ : Loc nD τ sig) → Buf (Elt F) ℓ)

/-! ## Records of the cells -/

/-- The cells of the protocol on one device: the handshake, the receive cell, the send cells. -/
abbrev Cells : Type := Unit ⊕ (Unit ⊕ Fin 32)
def csem : Cells → SemLoc sig
  | .inl _ => .reg barS
  | .inr (.inl _) => .dma cc0_scratch4.sem
  | .inr (.inr t) => .dma (sSem cc0_scratch3 t)
abbrev kcell (ck : Dev nD × Cells) : GSem nD τ sig := ((ck.1 : Thread nD τ), csem ck.2)

/-- Every cell's invariant, and that every cell is at its first round. -/
def records (K : Dev nD × Cells → ℕ) : sProp 𝕄 :=
  iprop((bigSep Finset.univ fun ck : Dev nD × Cells => cellInv ER (sched m) (K ck) (kcell ck))
    ∗ bigSep Finset.univ fun ck : Dev nD × Cells => reached ER (kcell ck) 0)

instance records_persistent (K : Dev nD × Cells → ℕ) : BI.Persistent (records m K) := by unfold records; infer_instance

variable (K : Dev nD × Cells → ℕ) (c : Dev nD)

theorem inv_at (ck : Dev nD × Cells) : records m K ⊢ cellInv ER (sched m) (K ck) (kcell ck) := by
  have h : (bigSep Finset.univ fun ck : Dev nD × Cells => (cellInv ER (sched m) (K ck) (kcell ck) : sProp 𝕄))
      ⊢ cellInv ER (sched m) (K ck) (kcell ck) := bigSep_elim (Finset.mem_univ ck)
  unfold records; iintro ⟨H, -⟩
  iapply h; iexact H
theorem reached_at (ck : Dev nD × Cells) : records m K ⊢ reached ER (kcell ck) 0 := by
  have h : (bigSep Finset.univ fun ck : Dev nD × Cells => (reached ER (kcell ck) 0 : sProp 𝕄)) ⊢ reached ER (kcell ck) 0 :=
    bigSep_elim (Finset.mem_univ ck)
  unfold records; iintro ⟨-, H⟩
  iapply h; iexact H

/-! ## Steps in order -/

/-- The weakest precondition of a program on device `c`. -/
abbrev WP (p : Prog (TpuEff nD τ sig (Elt F) Λ₀ .tc) PUnit) (Q : PUnit → sProp 𝕄) : sProp 𝕄 :=
  wp frame (wpE (defs₀ (F := F)) 𝒱₀ (c : Thread nD τ) none) Set.univ p Q

/-- The device owes `O`, whatever waits it has recorded. -/
def Ow (O : CellTallies nD τ sig Unit) : sProp 𝕄 := iprop(∃ W, owes (c : Thread nD τ) O W)

/-- Steps that take an invariant from each index to the next take it over a whole list of steps. -/
theorem wp_runAll {R : sProp 𝕄} [BI.Persistent R] (I : ℕ → sProp 𝕄) (f : Fin 32 → Prog (TpuEff nD τ sig (Elt F) Λ₀ .tc) PUnit)
    (Q : PUnit → sProp 𝕄) (k : Prog (TpuEff nD τ sig (Elt F) Λ₀ .tc) PUnit) :
    ∀ (l : List (Fin 32)) (n : ℕ), l.map Fin.val = List.range' n l.length →
      (∀ t ∈ l, ∀ kk, iprop(R ∗ I t.val ∗ (I (t.val + 1) -∗ WP c kk Q)) ⊢ WP c (f t >>= fun _ => kk) Q) →
      iprop(R ∗ I n ∗ (I (n + l.length) -∗ WP c k Q)) ⊢ WP c (runAll l f k) Q
  | [], n, _, _ => by
    iintro ⟨-, HI, Hk⟩
    iapply Hk; iexact HI
  | t :: l, n, hl, h => by
    have hl' : t.val :: l.map Fin.val = n :: List.range' (n + 1) l.length := by
      simpa [List.range'_succ] using hl
    obtain ⟨ht, hl''⟩ := List.cons.inj hl'
    have ih := wp_runAll I f Q k l (n + 1) hl'' fun t' ht' => h t' (List.mem_cons_of_mem _ ht')
    subst ht
    rw [List.length_cons, show t.val + (l.length + 1) = t.val + 1 + l.length by omega]
    unfold runAll
    iintro ⟨#HR, HI, Hk⟩
    iapply (h t List.mem_cons_self (runAll l f k))
    isplitr; · iexact HR
    isplitl [HI]; · iexact HI
    iintro HI
    iapply ih
    isplitr; · iexact HR
    isplitl [HI] <;> iassumption

theorem steps31_vals : steps31.map Fin.val = List.range' 1 steps31.length := by decide
theorem steps32_vals : steps32.map Fin.val = List.range' 0 steps32.length := by decide
theorem steps31_ne_zero : ∀ t ∈ steps31, t ≠ 0 := by decide

/-! ## The handshake -/

/-- What step `t`'s signal takes: its duty's token and the rows the addressed device will write here. -/
def sigTodo (t : Fin 32) : sProp 𝕄 := iprop(dutyTok ER (barCell (peer c t)) 0 (back t) ∗ rowsAny c (peer c t))
def sigI (n : ℕ) : sProp 𝕄 := iprop(Ow c (owR c 1 + owB c n) ∗ bigSep (finFrom 32 n) (sigTodo c))

theorem mem_duties {t : Fin 32} (h : t ≠ 0) : t ∈ finFrom 32 1 := mem_finFrom.mpr (Nat.pos_of_ne_zero fun e => h (Fin.ext e))

/-- One signal of the handshake, for any step but the first. -/
theorem wp_sig (t : Fin 32) (ht : t ≠ 0) (kk : Prog (TpuEff nD τ sig (Elt F) Λ₀ .tc) PUnit) (Q : PUnit → sProp 𝕄) :
    iprop(records m K ∗ sigI c t.val ∗ (sigI c (t.val + 1) -∗ WP c kk Q)) ⊢ WP c (sigP c t >>= fun _ => kk) Q := by
  have hp : ∀ n : Dev nD, n = peer c t → iprop(records m K ∗ sigI c t.val ∗ (sigI c (t.val + 1) -∗ WP c kk Q))
      ⊢ WP c ((semSignalWord n barS 1#32 : Prog (TpuEff nD τ sig (Elt F) Λ₀ .tc) PUnit) >>= fun _ => kk) Q := by
    rintro n rfl
    unfold sigI Ow
    rw [bigSep_finFrom_succ t.isLt]
    simp only [semSignalWord, Prog.lift, Prog.bind_op, Prog.bind_ret, Prog.pure_eq_ret]
    iintro ⟨#HR, ⟨⟨%W, HO⟩, Ht, Hrest⟩, Hk⟩
    unfold sigTodo
    icases Ht with ⟨Htok, Hrow⟩
    iapply (Rounds.wp_signal 𝒱₀ ER (sched m) (c : Thread nD τ) none (dst := (peer c t : Thread nD τ)) (κ := K (peer c t, .inl ()))
        (d := back t) (by rw [duties_bar]; exact mem_duties (back_ne_zero ht)) ((amount_bar m (peer c t) (back t)).trans (by decide)) ()
        (O₀ := owR c 1 + owB c t.val) (owR c 1 + owB c (t.val + 1)) (by rw [owB_step c t, ← add_assoc]; rfl)) $$ [HO Htok Hrow]
    · isplitr; · iapply (inv_at m K (peer c t, .inl ())); iexact HR
      isplitl [HO]; · iexact HO
      isplitl [Htok]; · iexact Htok
      isplitl [Hrow]; · rw [payload_bar, peer_back]; iexact Hrow
      iapply (reached_at m K (peer c t, .inl ())); iexact HR
    iintro HO
    iapply Hk
    isplitl [HO]; · iexists W; iexact HO
    iexact Hrest
  exact hp _ (dev_eq c t)

theorem rest_bar : bigSep ((sched m).duties (barCell c) 0 \ ∅) (fun u => (sched m).payload (barCell c) 0 u)
    = bigSep (finFrom 32 1) fun u => (rowsAny (peer c u) c : sProp 𝕄) := by
  rw [duties_bar, Finset.sdiff_empty]; exact bigSep_congr fun u _ => payload_bar m c u

/-- The wait of the handshake: this device's rows of every other device's result, to be written there. -/
theorem wp_barWait (kk : Prog (TpuEff nD τ sig (Elt F) Λ₀ .tc) PUnit) (Q : PUnit → sProp 𝕄) :
    iprop((records m K ∗ levAts L lv) ∗ cred (tallyAt (barCell c) () 31) ∗ Ow c (owR c 1) ∗ atPos ER (barCell c) 0 ∅ 0
        ∗ ((Ow c (owR c 1) ∗ semVal (barCell c) 0 ∗ bigSep (finFrom 32 1) fun u => rowsAny (peer c u) c) -∗ WP c kk Q))
      ⊢ WP c ((semWaitWord barS 31#32 : Prog (TpuEff nD τ sig (Elt F) Λ₀ .tc) PUnit) >>= fun _ => kk) Q := by
  unfold Ow
  simp only [semWaitWord, Prog.lift, Prog.bind_op, Prog.bind_ret, Prog.pure_eq_ret]
  iintro ⟨⟨#HR, #Hlev⟩, Hc, ⟨%W, HO⟩, Hat, Hk⟩
  iapply (Rounds.wp_wait_rest_token 𝒱₀ ER (sched m) (c : Thread nD τ) none (κ := K (c, .inl ()))
      (wpE_semWait_eq 𝒱₀ (c : Thread nD τ) none Set.univ) (Set.mem_univ _) () (O := owR c 1) (W := W) (R := 0) (m := 0) (T := ∅)
      (by rw [expect_bar]; decide)) $$ [Hc HO Hat]
  · isplitr; · iapply (inv_at m K (c, .inl ())); iexact HR
    isplitl [Hc]; · iexact Hc
    isplitl [HO]; · iexact HO
    isplitr; · iapply (mayWait_bar c); iexact Hlev
    iexact Hat
  iintro ⟨HO, Hat, -, Hpay⟩
  imod (Rounds.cell_close ER (sched m) (Set.mem_univ (K (c, .inl ()))) (fun h => h) (R := 0 + 1) (duties_later m (barCell c))) $$ [Hat] with Hz
  · isplitr; · iapply (inv_at m K (c, .inl ())); iexact HR
    iexact Hat
  iapply Hk
  isplitl [HO]; · iexists _; iexact HO
  isplitl [Hz]; · iexact Hz
  iapply (Entails.of_eq (rest_bar m c)); iexact Hpay

/-! ## The copies of the weights' columns -/

/-- The weights on device `c`, and a quarter of the permission to read them, for the slot of step `u`. -/
abbrev wBuf : Buf (Elt F) ((c : Thread nD τ).loc main_arg1) := m ((c : Thread nD τ).loc main_arg1)
abbrev wShare (t : Fin 32) : PosShare TreeShare := shareTok fullShare 4 (⟨t.val % 4, Nat.mod_lt _ (by decide)⟩ : Fin 4)
def wPts (t : Fin 32) (S : Finset (Idx ((c : Thread nD τ).loc main_arg1))) : sProp 𝕄 :=
  (c : Thread nD τ).loc main_arg1 ↦[S]{wShare t} wBuf m c

def slotAny (t : Fin 32) : sProp 𝕄 := iprop(∃ f, (slot rM t).view.loc (c : Thread nD τ) ↦[(slot rM t).view.set]{fullShare} f)
def slotAt (t : Fin 32) : sProp 𝕄 := owns (c : Thread nD τ) (slot rM t) fullShare (wcol m c t)

/-- The slot of step `t` free, and the slot of step `t` with the copy of that step's columns under way. -/
def idle (t : Fin 32) : sProp 𝕄 := iprop(slotAny c t ∗ wPts m c t Finset.univ ∗ semVal (copyCell c t) 0)
def busy (t : Fin 32) : sProp 𝕄 :=
  iprop(Flight EC (c : Thread nD τ) (.dma (cSem cc0_scratch2 t)) () NW iprop(slotAt m c t ∗ wPts m c t (wCol wM c t).view.set)
    ∗ wPts m c t (Finset.univ \ (wCol wM c t).view.set))

/-- A slot free, by any number standing for it modulo four. -/
def idleN (u : ℕ) : sProp 𝕄 := idle m c ⟨u % 4, Nat.lt_of_lt_of_le (Nat.mod_lt _ (by decide)) (by decide)⟩
/-- The slot of step `u` before it is waited for. -/
def stN (u : ℕ) : sProp 𝕄 := if h : u < 32 then busy m c ⟨u, h⟩ else idleN m c u

theorem slot_congr {t t' : Fin 32} (h : t.val % 4 = t'.val % 4) : (slot rM t) = slot rM t' := by
  have key : ∀ (n n' : ℕ) (h₁ : ∀ a, (![n, 0, 0] : Fin 3 → Nat) a + S1x4096x256.size a ≤ S4x4096x256.size a)
      (h₂ : ∀ a, (![n', 0, 0] : Fin 3 → Nat) a + S1x4096x256.size a ≤ S4x4096x256.size a), n = n' →
      ((rM.slice (Rect.unit (s := S4x4096x256) ![n, 0, 0] S1x4096x256.size h₁) (fun _ => rfl)).squeeze S4096x256 squeezes_S1x4096x256_S4096x256)
        = (rM.slice (Rect.unit (s := S4x4096x256) ![n', 0, 0] S1x4096x256.size h₂) (fun _ => rfl)).squeeze S4096x256 squeezes_S1x4096x256_S4096x256 := by
    rintro n _ h₁ h₂ rfl; rfl
  exact key _ _ _ _ h
theorem cSem_congr {t t' : Fin 32} (h : t.val % 4 = t'.val % 4) : cSem cc0_scratch2 t = cSem cc0_scratch2 t' := by
  have key : ∀ (n n' : ℕ) (h₁ : ∀ a, (![n] : Fin 1 → Nat) a + S1.size a ≤ S4.size a)
      (h₂ : ∀ a, (![n'] : Fin 1 → Nat) a + S1.size a ≤ S4.size a), n = n' →
      ((cc0_scratch2.slice (Rect.unit (s := S4) ![n] S1.size h₁)).squeeze S_ squeezes_S1_S_).sem
        = ((cc0_scratch2.slice (Rect.unit (s := S4) ![n'] S1.size h₂)).squeeze S_ squeezes_S1_S_).sem := by
    rintro n _ h₁ h₂ rfl; rfl
  exact key _ _ _ _ h
theorem slotAny_congr {t t' : Fin 32} (h : t.val % 4 = t'.val % 4) : (slotAny c t : sProp 𝕄) = slotAny c t' := by
  unfold slotAny; rw [slot_congr h]
theorem wShare_congr {t t' : Fin 32} (h : t.val % 4 = t'.val % 4) : wShare t = wShare t' :=
  congrArg (shareTok fullShare 4) (Fin.ext h)
theorem wPts_congr {t t' : Fin 32} (h : t.val % 4 = t'.val % 4) (S : Finset (Idx ((c : Thread nD τ).loc main_arg1))) :
    wPts m c t S = wPts m c t' S := by unfold wPts; rw [wShare_congr h]
theorem idle_congr {t t' : Fin 32} (h : t.val % 4 = t'.val % 4) : idle m c t = idle m c t' := by
  unfold idle
  rw [slotAny_congr c h, show copyCell c t = copyCell c t' from congrArg (fun s => ((c : Thread nD τ), SemLoc.dma s)) (cSem_congr h),
    wPts_congr m c h]
theorem idle_eq (t : Fin 32) : idle m c t = idleN m c t.val := idle_congr m c (by show t.val % 4 = t.val % 4 % 4; omega)
theorem idleN_add (u : ℕ) : idleN m c (u + 4) = idleN m c u :=
  idle_congr m c (by show (u + 4) % 4 % 4 = u % 4 % 4; omega)
theorem stN_lt (t : Fin 32) : stN m c t.val = busy m c t := dif_pos t.isLt
theorem stN_ge {u : ℕ} (h : ¬ u < 32) : stN m c u = idleN m c u := dif_neg h

/-- Beginning the copy of step `t`'s columns. -/
theorem wp_start (t : Fin 32) (kk : Prog (TpuEff nD τ sig (Elt F) Λ₀ .tc) PUnit) (Q : PUnit → sProp 𝕄) :
    iprop(idle m c t ∗ (busy m c t -∗ WP c kk Q)) ⊢ WP c (startP wM rM cc0_scratch2 c t >>= fun _ => kk) Q := by
  unfold idle slotAny startP wPts
  simp only [Prog.lift, Prog.bind_op, Prog.bind_ret, Prog.pure_eq_ret]
  iintro ⟨⟨⟨%f, Hd⟩, Hw, Hv⟩, Hk⟩
  ihave Hw' := (pointsTo_split_subset (Finset.subset_univ (wCol wM c t).view.set)).1 $$ Hw
  icases Hw' with ⟨Hw, Hrest⟩
  iapply (wp_dmaLocal EC 𝒱₀ (c : Thread nD τ) none (src := wCol wM c t) (dst := slot rM t) (sm := .dma (cSem cc0_scratch2 t)) (Sd := (slot rM t).view.set) () NW rfl NW_pos (Finset.Subset.refl _)) $$ [Hd Hw Hv]
  · isplitl [Hw]; · iexact Hw
    isplitl [Hd] <;> iassumption
  iintro HF
  iapply Hk
  unfold busy wPts
  isplitl [HF]
  · iapply (Flight_mono EC (c : Thread nD τ) (h := ?_)) $$ HF
    iintro ⟨Hd, Hw⟩
    isplitl [Hd]
    · unfold slotAt owns
      iexists _
      isplitr [Hd]
      rotate_left
      · iexact Hd
      · ipureintro; exact View.read_write_univ _ _
    · iexact Hw
  · iexact Hrest

/-- Waiting for the copy of step `t`'s columns. -/
theorem wp_waitCopy (t : Fin 32) (n : ℕ) (kk : Prog (TpuEff nD τ sig (Elt F) Λ₀ .tc) PUnit) (Q : PUnit → sProp 𝕄) :
    iprop(levAts L lv ∗ busy m c t ∗ Ow c (owR c n)
        ∗ ((slotAt m c t ∗ wPts m c t Finset.univ ∗ semVal (copyCell c t) 0 ∗ Ow c (owR c n)) -∗ WP c kk Q))
      ⊢ WP c (waitP wM rM cc0_scratch2 c t >>= fun _ => kk) Q := by
  unfold busy Ow waitP wPts
  simp only [Prog.lift, Prog.bind_op, Prog.bind_ret, Prog.pure_eq_ret]
  iintro ⟨#Hlev, ⟨HF, Hrest⟩, ⟨%W, HO⟩, Hk⟩
  iapply (wp_waitLocalO EC 𝒱₀ (c : Thread nD τ) none (sem := cSem cc0_scratch2 t) (srcw := wCol wM c t) (dstw := slot rM t) () (N := NW) rfl) $$ [HF HO]
  · isplitl [HF]; · iexact HF
    isplitl [HO]; · iexact HO
    iapply (by rw [show owR c n = owR c n + owB c 32 by rw [owB_end, add_zero]]; exact mayWait_dma c (cSem cc0_scratch2 t) (copy_ne_recv t) n 32 :
      (levAts L lv : sProp 𝕄) ⊢ MayWait (c : Thread nD τ) (.dma (cSem cc0_scratch2 t)) () (owR c n))
    iexact Hlev
  iintro ⟨⟨Hs, Hw⟩, Hv, HO⟩
  iapply Hk
  isplitl [Hs]; · iexact Hs
  isplitl [Hw Hrest]
  · iapply (pointsTo_split_subset (Finset.subset_univ (wCol wM c t).view.set)).2
    isplitl [Hw] <;> iassumption
  isplitl [Hv]; · iexact Hv
  iexists _; iexact HO

/-! ## The products -/

theorem slot_set (t : Fin 32) : (slot rM t).view.set = (rM.access (slotR t)).set := View.set_reshape _ _
theorem sbuf_set (t : Fin 32) : (sbuf sM t).view.set = (sM.access (sbufR t)).set := View.set_reshape _ _

/-- A slot of the send buffer read after a block was stored in it. -/
theorem sbuf_read (t : Fin 32) (f : (sM.access (sbufR t)).ty.Contents (Elt F)) (X : Vec F S128x256 .f32) :
    (sbuf sM t).view.read (Elt F) ((sM.access (sbufR t)).write (Elt F) f (shapeCast S1x128x256 X shapeCasts_S128x256_S1x128x256) Finset.univ) = X := by
  have h : (sbuf sM t).view.read (Elt F) ((sM.access (sbufR t)).write (Elt F) f (shapeCast S1x128x256 X shapeCasts_S128x256_S1x128x256) Finset.univ)
      = shapeCast S128x256 ((sM.access (sbufR t)).read (Elt F)
          ((sM.access (sbufR t)).write (Elt F) f (shapeCast S1x128x256 X shapeCasts_S128x256_S1x128x256) Finset.univ)) shapeCasts_S1x128x256_S128x256 := rfl
  rw [h, View.read_write_univ]
  exact shapeCast_shapeCast X _ _

/-- A slot holding a block, landed in the rows this device writes of its peer's result. -/
theorem land_rows (t : Fin 32) (f : Buf (Elt F) ((sbuf sM t).view.loc (c : Thread nD τ))) (hf : (sbuf sM t).view.read (Elt F) f = zblk m c t)
    (fd : Buf (Elt F) ((rowM oM c).view.loc (peer c t : Thread nD τ))) :
    ((rowM oM c).view.loc (peer c t : Thread nD τ) ↦[(rowM oM c).view.set]{fullShare}
        ((rowM oM c).view.write (Elt F) fd ((sbuf sM t).view.read (Elt F) f) Finset.univ))
      ⊢ (sched m).payload (recvCell (peer c t)) 0 (back t) := by
  rw [payload_recv, peer_back, hf]
  unfold rowsAt owns
  rw [dist_peer]
  iintro H; iexists _
  isplitr [H]
  rotate_left
  · iexact H
  · ipureintro; exact View.read_write_univ _ _

theorem dist_self : dist c c = 0 := Fin.ext (by have : c.val < 32 := c.isLt; show (c.val + 32 - c.val) % 32 = 0; omega)

/-- Reading the slot of step `t`: the columns copied there, as the kernel's vector of one slot. -/
theorem wp_slotLoad (t : Fin 32) (kk : Vec F S1x4096x256 .f32 → Prog (TpuEff nD τ sig (Elt F) Λ₀ .tc) PUnit) (Q : PUnit → sProp 𝕄) :
    iprop(slotAt m c t ∗ (∀ w, ⌜shapeCast S4096x256 w shapeCasts_S1x4096x256_S4096x256 = wcol m c t⌝ -∗ slotAny c t -∗ WP c (kk w) Q))
      ⊢ WP c (Prog.lift (.load rM (slotR t).toLoadRect (View.loadsAt_vmem h_S1x4096x256)) >>= kk) Q := by
  unfold slotAt owns slotAny
  simp only [Prog.lift, Prog.bind_op, Prog.bind_ret, Prog.pure_eq_ret]
  iintro ⟨⟨%f, %hf, Hs⟩, Hk⟩
  iapply (wp_load_rect 𝒱₀ (c : Thread nD τ) none Set.univ (m := rM) (r := slotR t) (S := (slot rM t).view.set)
    (slot_set t).ge) $$ Hs
  iintro Hs
  iapply Hk $$ [] [Hs]
  · ipureintro; exact hf
  · iexists f; iexact Hs

/-- The block of the first step, stored in the device's own rows. -/
theorem wp_keep (w : Vec F S1x4096x256 .f32) (hw : shapeCast S4096x256 w shapeCasts_S1x4096x256_S4096x256 = wcol m c 0)
    (kk : Prog (TpuEff nD τ sig (Elt F) Λ₀ .tc) PUnit) (Q : PUnit → sProp 𝕄) :
    iprop(rowsAny c c ∗ (rowsAt m c c -∗ WP c kk Q))
      ⊢ WP c (keepP oM c (scale m c) (k0_pay2 (xin m c)) w >>= fun _ => kk) Q := by
  have key : ∀ (o : Fin 2 → ℕ) (h : ∀ a, o a + S128x256.size a ≤ S4096x256.size a) (e : o = k0_off3 c),
      iprop(rowsAny c c ∗ (rowsAt m c c -∗ WP c kk Q)) ⊢ WP c ((do
        let _ : Vec F S128x256 .f32 ← Prog.lift (.load oM (Rect.unit (s := S4096x256) o S128x256.size h).toLoadRect (View.loadsAt_vmem h_S128x256))
        Prog.lift (.store oM (Rect.unit (s := S4096x256) o S128x256.size h) (k0_pay3 (scale m c) (k0_pay2 (xin m c)) w) Finset.univ
          (View.stores_vmem_bits_univ h_S128x256 rfl) (.inl rfl)) : Prog (TpuEff nD τ sig (Elt F) Λ₀ .tc) PUnit) >>= fun _ => kk) Q := by
    rintro o h rfl
    rw [pay3_eq _ _ w _ hw]
    simp only [Prog.lift, Prog.bind_op, Prog.bind_ret, Prog.pure_eq_ret]
    unfold rowsAny rowsAt owns
    iintro ⟨⟨%f, H⟩, Hk⟩
    iapply (wp_load_rect 𝒱₀ (c : Thread nD τ) none Set.univ (m := oM) (r := rowR c) (S := (rowM oM c).view.set) (Finset.Subset.refl _)) $$ H
    iintro H
    iapply (wp_store 𝒱₀ (c : Thread nD τ) none Set.univ (m := oM) (r := rowR c) (Mk := Finset.univ) (S := (rowM oM c).view.set)
      (View.setOn_subset_set _ _)) $$ H
    iintro H
    iapply Hk
    iexists _
    isplitr [H]
    rotate_left
    · iexact H
    · ipureintro; rw [dist_self]; exact View.read_write_univ _ _
  exact key _ _ ((k0_off2_eq c).trans (k0_off3_eq c).symm)

/-- A send: the slot goes with the send cell's duty, the rows with the receive cell's, and the block is no longer owed. -/
theorem wp_sendCore (t : Fin 32) (ht : t ≠ 0) (f : Buf (Elt F) ((sbuf sM t).view.loc (c : Thread nD τ)))
    (hf : (sbuf sM t).view.read (Elt F) f = zblk m c t)
    (fd : Buf (Elt F) ((rowM oM c).view.loc (peer c t : Thread nD τ))) (W : Waits sig Unit)
    {hsrc : (sbuf sM t).view.WordExact} {hdst : (rowM oM c).view.WordExact} {hsc : (rowM oM c).view.ref.isScScratch = false}
    {hsem : DmaTarget.Typed .vmem (.dma cc0_scratch4.sem) (.remote (Dev.tc (peer c t)) (rowM oM c) (.dma (sSem cc0_scratch3 t)) hsc)}
    (k : PUnit → Prog (TpuEff nD τ sig (Elt F) Λ₀ .tc) PUnit) (Q : PUnit → sProp 𝕄) :
    iprop(records m K ∗ ((sbuf sM t).view.loc (c : Thread nD τ) ↦[(sbuf sM t).view.set]{fullShare} f)
        ∗ ((rowM oM c).view.loc (peer c t : Thread nD τ) ↦[(rowM oM c).view.set]{fullShare} fd)
        ∗ owes (c : Thread nD τ) (owR c t.val) W ∗ dutyTok ER (sendCell c t) 0 0 ∗ dutyTok ER (recvCell (peer c t)) 0 (back t))
      ⊢ iprop(((cred (tallyAt (sendCell c t) () NB) ∗ owes (c : Thread nD τ) (owR c (t.val + 1)) W) -∗ WP c (k ⟨⟩) Q)
        -∗ WP c (.op (.enqueueDma (sbuf sM t) (.remote (Dev.tc (peer c t)) (rowM oM c) (.dma (sSem cc0_scratch3 t)) hsc)
          (.dma cc0_scratch4.sem) hsrc hdst hsem) k) Q) := by
  iintro ⟨#HR, Hs, Hd, HO, Hts, Htr⟩ Hk
  iapply (Rounds.wp_send_pointsTo 𝒱₀ ER (sched m) (c : Thread nD τ) none (c' := (peer c t : Thread nD τ)) (src := sbuf sM t) (dst := rowM oM c)
    (sS := .dma (sSem cc0_scratch3 t)) (sem := .dma cc0_scratch4.sem) (q := fullShare) (fs := f)
    (κ₁ := K (c, .inr (.inr t))) (κ₂ := K (peer c t, .inr (.inl ()))) (r₁ := 0) (r₂ := 0) (d₁ := 0) (d₂ := back t) (fd := fd)
    (by rw [duties_send m c ht]; exact Finset.mem_singleton_self _) (by rw [duties_recv]; exact mem_duties (back_ne_zero ht))
    () () NB rfl (amount_send m c t 0) (amount_recv m (peer c t) (back t)) (O₀ := owR c t.val) (owR c (t.val + 1)) (owR_step c t)
    (by rw [payload_send]; unfold sbufAny; iintro H; iexists f; iexact H)
    (land_rows m c t f hf fd)) $$ [Hs Hd HO Hts Htr]
  · isplitr; · iapply (inv_at m K (c, .inr (.inr t))); iexact HR
    isplitr; · iapply (inv_at m K (peer c t, .inr (.inl ()))); iexact HR
    isplitl [Hs]; · iexact Hs
    isplitl [Hd]; · iexact Hd
    isplitl [HO]; · iexact HO
    isplitl [Hts]; · iexact Hts
    isplitr; · iapply (reached_at m K (c, .inr (.inr t))); iexact HR
    isplitl [Htr]; · iexact Htr
    iapply (reached_at m K (peer c t, .inr (.inl ()))); iexact HR
  iexact Hk

/-- The block of a later step, stored in its slot of the send buffer and sent to the device the step addresses. -/
theorem wp_sendBlk (t : Fin 32) (ht : t ≠ 0) (w : Vec F S1x4096x256 .f32)
    (hw : shapeCast S4096x256 w shapeCasts_S1x4096x256_S4096x256 = wcol m c t)
    (kk : Prog (TpuEff nD τ sig (Elt F) Λ₀ .tc) PUnit) (Q : PUnit → sProp 𝕄) :
    iprop(records m K ∗ sbufAny c t ∗ rowsAny (peer c t) c ∗ dutyTok ER (sendCell c t) 0 0 ∗ dutyTok ER (recvCell (peer c t)) 0 (back t)
        ∗ Ow c (owR c t.val) ∗ ((cred (tallyAt (sendCell c t) () NB) ∗ Ow c (owR c (t.val + 1))) -∗ WP c kk Q))
      ⊢ WP c (sendP oM sM cc0_scratch3 cc0_scratch4 c t (scale m c) (k0_pay2 (xin m c)) w >>= fun _ => kk) Q := by
  have hp : ∀ (n : Nat) (hn : n < nD) (e : (⟨n, hn⟩ : Dev nD) = peer c t),
      iprop(records m K ∗ sbufAny c t ∗ rowsAny (peer c t) c ∗ dutyTok ER (sendCell c t) 0 0 ∗ dutyTok ER (recvCell (peer c t)) 0 (back t)
        ∗ Ow c (owR c t.val) ∗ ((cred (tallyAt (sendCell c t) () NB) ∗ Ow c (owR c (t.val + 1))) -∗ WP c kk Q))
      ⊢ WP c ((do
        let _ : Vec F S1x128x256 .f32 ← Prog.lift (.load sM (sbufR t).toLoadRect (View.loadsAt_vmem h_S1x128x256))
        Prog.lift (.store sM (sbufR t) (k0_pay4 (scale m c) (k0_pay2 (xin m c)) w) Finset.univ (View.stores_vmem_bits_univ h_S1x128x256 rfl) (.inl rfl))
        Prog.lift (.enqueueDma (sbuf sM t) (.remote (Dev.tc (⟨n, hn⟩ : Dev nD)) (rowM oM c) (.dma (sSem cc0_scratch3 t)))
          (.dma cc0_scratch4.sem) ((View.wordExact_bits rfl).reshape _ _) (View.wordExact_bits rfl) ⟨⟨rfl, Or.inl rfl⟩, trivial⟩) :
          Prog (TpuEff nD τ sig (Elt F) Λ₀ .tc) PUnit) >>= fun _ => kk) Q := by
    intro n hn e
    rw [e, pay4_eq _ _ w _ hw]
    simp only [Prog.lift, Prog.bind_op, Prog.bind_ret, Prog.pure_eq_ret]
    unfold sbufAny rowsAny Ow
    iintro ⟨#HR, ⟨%f, Hs⟩, ⟨%fd, Hd⟩, Hts, Htr, ⟨%W, HO⟩, Hk⟩
    iapply (wp_load_rect 𝒱₀ (c : Thread nD τ) none Set.univ (m := sM) (r := sbufR t) (S := (sbuf sM t).view.set)
      (sbuf_set t).ge) $$ Hs
    iintro Hs
    iapply (wp_store 𝒱₀ (c : Thread nD τ) none Set.univ (m := sM) (r := sbufR t) (Mk := Finset.univ) (S := (sbuf sM t).view.set)
      ((View.setOn_subset_set _ _).trans (sbuf_set t).ge)) $$ Hs
    iintro Hs
    iapply (wp_sendCore m K c t ht ((sM.access (sbufR t)).write (Elt F) f (shapeCast S1x128x256 (zblk m c t) shapeCasts_S128x256_S1x128x256) Finset.univ)
      (sbuf_read t f _) fd W) $$ [Hs Hd HO Hts Htr]
    · isplitr; · iexact HR
      isplitl [Hs]; · iexact Hs
      isplitl [Hd]; · iexact Hd
      isplitl [HO]; · iexact HO
      isplitl [Hts] <;> iassumption
    iintro ⟨Hc, HO⟩
    iapply Hk
    isplitl [Hc]; · iexact Hc
    iexists W; iexact HO
  exact hp _ _ (dev_eq c t)

end Cert.KernelIdeal.Mesh

end
-- ==== Proof.IdealLoops.lean ====
/-
The kernel's loops — the products with their copies, the waits for the sends, the waits for the other devices' blocks.
-/
module

public import proofs.«01_k».proof.Proof.IdealSteps

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit Idealize.ShloMosaic.Transfers

variable {F : FTy → Type} [FloatOps F]

local notation "𝕄" => MT nD τ sig Unit (Elt F) ℕ UU ℕ

variable (m : (ℓ : Loc nD τ sig) → Buf (Elt F) ℓ) (K : Dev nD × Cells → ℕ) (c : Dev nD)

/-! ## The products -/

/-- What step `t` takes for its block, and what it leaves. -/
def iterTodo (t : Fin 32) : sProp 𝕄 :=
  if t = 0 then rowsAny c c
  else iprop(sbufAny c t ∗ rowsAny (peer c t) c ∗ dutyTok ER (sendCell c t) 0 0 ∗ dutyTok ER (recvCell (peer c t)) 0 (back t))
def iterDone (t : Fin 32) : sProp 𝕄 := if t = 0 then rowsAt m c c else cred (tallyAt (sendCell c t) () NB)

/-- Before step `n`: the copies of the three next steps begun or their slots free, the fourth slot free; the blocks of the
    steps ahead owed and what they take in hand; what the steps made have left. -/
def iterI (n : ℕ) : sProp 𝕄 :=
  iprop(((stN m c n ∗ stN m c (n + 1) ∗ stN m c (n + 2) ∗ idleN m c (n + 3)) ∗ Ow c (owR c (max 1 n)))
    ∗ bigSep (finFrom 32 n) (iterTodo c) ∗ bigSep (finUpTo 32 n) (iterDone m c))

/-- The copy three steps ahead. -/
theorem wp_ahead (t : Fin 32) (kk : Prog (TpuEff nD τ sig (Elt F) Λ₀ .tc) PUnit) (Q : PUnit → sProp 𝕄) :
    iprop(idleN m c (t.val + 3) ∗ (stN m c (t.val + 3) -∗ WP c kk Q))
      ⊢ WP c ((if h : t.val + 3 < 32 then startP wM rM cc0_scratch2 c ⟨t.val + 3, h⟩ else pure ⟨⟩) >>= fun _ => kk) Q := by
  by_cases h : t.val + 3 < 32
  · rw [dif_pos h]
    have e1 : idleN m c (t.val + 3) = idle m c ⟨t.val + 3, h⟩ := (idle_eq m c ⟨t.val + 3, h⟩).symm
    have e2 : stN m c (t.val + 3) = busy m c ⟨t.val + 3, h⟩ := stN_lt m c ⟨t.val + 3, h⟩
    rw [e1, e2]
    exact wp_start m c ⟨t.val + 3, h⟩ kk Q
  · rw [dif_neg h, stN_ge m c h, pure_bind]
    iintro ⟨HI, Hk⟩
    iapply Hk; iexact HI

/-- Storing the block of step `t`, and sending it unless it is the device's own. -/
theorem wp_block (t : Fin 32) (w : Vec F S1x4096x256 .f32) (hw : shapeCast S4096x256 w shapeCasts_S1x4096x256_S4096x256 = wcol m c t)
    (kk : Prog (TpuEff nD τ sig (Elt F) Λ₀ .tc) PUnit) (Q : PUnit → sProp 𝕄) :
    iprop(records m K ∗ iterTodo c t ∗ Ow c (owR c (max 1 t.val))
        ∗ ((iterDone m c t ∗ Ow c (owR c (max 1 (t.val + 1)))) -∗ WP c kk Q))
      ⊢ WP c ((if t.val = 0 then keepP oM c (scale m c) (k0_pay2 (xin m c)) w
          else sendP oM sM cc0_scratch3 cc0_scratch4 c t (scale m c) (k0_pay2 (xin m c)) w) >>= fun _ => kk) Q := by
  unfold iterTodo iterDone
  by_cases h : t.val = 0
  · obtain rfl : t = 0 := Fin.ext h
    rw [if_pos rfl, if_pos rfl, if_pos h]
    iintro ⟨-, HT, HO, Hk⟩
    iapply (wp_keep m c w hw kk Q)
    isplitl [HT]; · iexact HT
    iintro HD
    iapply Hk
    isplitl [HD]; · iexact HD
    iexact HO
  · have ht : t ≠ 0 := fun e => h (by rw [e]; rfl)
    rw [if_neg h, if_neg ht, if_neg ht, show max 1 t.val = t.val by omega, show max 1 (t.val + 1) = t.val + 1 by omega]
    iintro ⟨#HR, ⟨Hs, Hd, Hts, Htr⟩, HO, Hk⟩
    iapply (wp_sendBlk m K c t ht w hw kk Q)
    isplitr; · iexact HR
    isplitl [Hs]; · iexact Hs
    isplitl [Hd]; · iexact Hd
    isplitl [Hts]; · iexact Hts
    isplitl [Htr]; · iexact Htr
    isplitl [HO]; · iexact HO
    iexact Hk

/-- One step of the products. -/
theorem wp_iter (t : Fin 32) (kk : Prog (TpuEff nD τ sig (Elt F) Λ₀ .tc) PUnit) (Q : PUnit → sProp 𝕄) :
    iprop((records m K ∗ levAts L lv) ∗ iterI m c t.val ∗ (iterI m c (t.val + 1) -∗ WP c kk Q))
      ⊢ WP c (iterP wM oM rM sM cc0_scratch2 cc0_scratch3 cc0_scratch4 c (scale m c) (k0_pay2 (xin m c)) t >>= fun _ => kk) Q := by
  unfold iterP iterI
  simp only [bind_assoc]
  rw [bigSep_finFrom_succ t.isLt, bigSep_finUpTo_succ t.isLt, stN_lt]
  iintro ⟨⟨#HR, #Hlev⟩, ⟨⟨⟨Hs0, Hs1, Hs2, Hs3⟩, HO⟩, ⟨HT, Hrest⟩, HD⟩, Hk⟩
  iapply (wp_ahead m c t)
  isplitl [Hs3]; · iexact Hs3
  iintro Hs3
  iapply (wp_waitCopy m c t)
  isplitr; · iexact Hlev
  isplitl [Hs0]; · iexact Hs0
  isplitl [HO]; · iexact HO
  iintro ⟨Hs0, Hw, Hv, HO⟩
  iapply (wp_slotLoad m c t)
  isplitl [Hs0]; · iexact Hs0
  iintro %w %hw Hs0
  iapply (wp_block m K c t w hw kk Q)
  isplitr; · iexact HR
  isplitl [HT]; · iexact HT
  isplitl [HO]; · iexact HO
  iintro ⟨Hd, HO⟩
  iapply Hk
  isplitl [Hs0 Hs1 Hs2 Hs3 Hw Hv HO]
  · isplitr [HO]
    · isplitl [Hs1]; · iexact Hs1
      isplitl [Hs2]; · iexact Hs2
      isplitl [Hs3]; · iexact Hs3
      iapply (Entails.of_eq ((idle_eq m c t).trans (idleN_add m c t.val).symm))
      unfold idle
      isplitl [Hs0]; · iexact Hs0
      isplitl [Hw] <;> iassumption
    · iexact HO
  isplitl [Hrest]; · iexact Hrest
  isplitl [Hd] <;> iassumption

/-! ## The waits for the sends -/

def sentTodo (t : Fin 32) : sProp 𝕄 := iprop(cred (tallyAt (sendCell c t) () NB) ∗ atPos ER (sendCell c t) 0 ∅ 0)
def sentDone (t : Fin 32) : sProp 𝕄 := iprop(semVal (sendCell c t) 0 ∗ sbufAny c t)
def sentI (n : ℕ) : sProp 𝕄 := iprop(Ow c 0 ∗ bigSep (finFrom 32 n) (sentTodo c) ∗ bigSep (finUpTo 32 n) (sentDone c))

theorem rest_send (t : Fin 32) (ht : t ≠ 0) : bigSep ((sched m).duties (sendCell c t) 0 \ ∅) (fun u => (sched m).payload (sendCell c t) 0 u)
    = (sbufAny c t : sProp 𝕄) := by
  rw [duties_send m c ht, Finset.sdiff_empty, bigSep_singleton, payload_send]

theorem credit_sbuf (t : Fin 32) : (sbuf sM t).view.dmaCredit = NB := rfl
abbrev row0 : Memref sig .tc .vmem S128x256 .f32 :=
  oM.slice (Rect.unit (s := S4096x256) ![0, 0] S128x256.size inb_S4096x256_S128x256_0_0) (fun _ => rfl)
theorem credit_row0 : row0.view.dmaCredit = NB := rfl

/-- A wait of the kernel for a block takes the block's credit. -/
theorem wait_send (t : Fin 32) {h₁ : (rowM oM c).view.WordExact} {h₂ : (sbuf sM t).view.WordExact} (Kk : PUnit → sProp 𝕄) :
    wpE (defs₀ (F := F)) 𝒱₀ (c : Thread nD τ) none Set.univ (.waitDma2 (sSem cc0_scratch3 t) (rowM oM c) (sbuf sM t) h₁ h₂) Kk
      = waitSpec (c : Thread nD τ) Set.univ (.dma (sSem cc0_scratch3 t)) NB Kk :=
  (wpE_waitDma2_eq 𝒱₀ (c : Thread nD τ) none Set.univ Kk).trans (by rw [credit_sbuf])
theorem wait_recv {h₁ : (sbuf sM 0).view.WordExact} {h₂ : row0.view.WordExact} (Kk : PUnit → sProp 𝕄) :
    wpE (defs₀ (F := F)) 𝒱₀ (c : Thread nD τ) none Set.univ (.waitDma2 cc0_scratch4.sem (sbuf sM 0) row0 h₁ h₂) Kk
      = waitSpec (c : Thread nD τ) Set.univ (.dma cc0_scratch4.sem) NB Kk :=
  (wpE_waitDma2_eq 𝒱₀ (c : Thread nD τ) none Set.univ Kk).trans (by rw [credit_row0])

/-- One wait for a send. -/
theorem wp_sent (t : Fin 32) (ht : t ≠ 0) (kk : Prog (TpuEff nD τ sig (Elt F) Λ₀ .tc) PUnit) (Q : PUnit → sProp 𝕄) :
    iprop(records m K ∗ sentI c t.val ∗ (sentI c (t.val + 1) -∗ WP c kk Q))
      ⊢ WP c (sentP oM sM cc0_scratch3 c t >>= fun _ => kk) Q := by
  unfold sentP sentI Ow
  rw [bigSep_finFrom_succ t.isLt, bigSep_finUpTo_succ t.isLt]
  simp only [Prog.lift, Prog.bind_op, Prog.bind_ret, Prog.pure_eq_ret]
  unfold sentTodo sentDone
  iintro ⟨#HR, ⟨⟨%W, HO⟩, ⟨⟨Hc, Hat⟩, Hrest⟩, HD⟩, Hk⟩
  iapply (Rounds.wp_wait_rest_token 𝒱₀ ER (sched m) (c : Thread nD τ) none (κ := K (c, .inr (.inr t)))
      (sm := .dma (sSem cc0_scratch3 t)) (k' := NB)
      (wait_send c t) (Set.mem_univ _) () (O := 0) (W := W) (R := 0) (m := 0) (T := ∅)
      (by rw [Nat.zero_add, expect_send m c ht])) $$ [Hc HO Hat]
  · isplitr; · iapply (inv_at m K (c, .inr (.inr t))); iexact HR
    isplitl [Hc]; · iexact Hc
    isplitl [HO]; · iexact HO
    isplitr; · rw [MayWait_zero]; iempintro
    iexact Hat
  iintro ⟨HO, Hat, -, Hpay⟩
  ihave Hs := (Entails.of_eq (rest_send m c t ht)) $$ Hpay
  imod (Rounds.cell_close ER (sched m) (Set.mem_univ (K (c, .inr (.inr t)))) (fun h => h) (R := 0 + 1) (duties_later m (sendCell c t))) $$ [Hat] with Hz
  · isplitr; · iapply (inv_at m K (c, .inr (.inr t))); iexact HR
    iexact Hat
  iapply Hk
  isplitl [HO]; · iexists _; iexact HO
  isplitl [Hrest]; · iexact Hrest
  isplitr [HD]
  · isplitl [Hz] <;> iassumption
  · iexact HD

/-! ## The waits for the other devices' blocks -/

/-- Before wait `n` (the first has number one). -/
def recvI (W : Waits sig Unit) (n : ℕ) : sProp 𝕄 :=
  drainInv ER (sched m) (c : Thread nD τ) 0 W (.dma cc0_scratch4.sem) (recvCell c) () 0 NB 31 (n - 1)

/-- One wait for a block. -/
theorem wp_recv (W : Waits sig Unit) (t : Fin 32) (ht : t ≠ 0) (kk : Prog (TpuEff nD τ sig (Elt F) Λ₀ .tc) PUnit) (Q : PUnit → sProp 𝕄) :
    iprop(records m K ∗ recvI m c W t.val ∗ (recvI m c W (t.val + 1) -∗ WP c kk Q))
      ⊢ WP c (recvP oM sM cc0_scratch4 >>= fun _ => kk) Q := by
  have h1 : 0 < t.val := Nat.pos_of_ne_zero fun e => ht (Fin.ext e)
  have h2 := t.isLt
  unfold recvP recvI
  rw [show t.val + 1 - 1 = t.val - 1 + 1 by omega]
  simp only [Prog.lift, Prog.bind_op, Prog.bind_ret, Prog.pure_eq_ret]
  have hstep := wp_drainInv_step (E := ER) (Rd := sched m) (thr := (c : Thread nD τ)) (O := 0) (W := W) (sm := .dma cc0_scratch4.sem)
    (g := recvCell c) (ι := ()) (R := 0) (N := NB) (n := 31) (k := t.val - 1) (by omega)
    (A := cellInv ER (sched m) (K (c, .inr (.inl ()))) (recvCell c)) (M := MayWait (c : Thread nD τ) (.dma cc0_scratch4.sem) () 0)
    (Φ := WP c kk Q)
    (Ψ := WP c (.op (.waitDma2 cc0_scratch4.sem (sbuf sM 0)
      (oM.slice (Rect.unit (s := S4096x256) ![0, 0] S128x256.size inb_S4096x256_S128x256_0_0) (fun _ => rfl))
      ((View.wordExact_bits rfl).reshape _ _) (View.wordExact_bits rfl)) fun _ => kk) Q)
    (fun W' T => by
      rw [Finset.insert_eq, Finset.union_comm]
      exact Rounds.wp_wait 𝒱₀ ER (sched m) (c : Thread nD τ) none (κ := K (c, .inr (.inl ()))) (sm := .dma cc0_scratch4.sem) (k' := NB)
        (wait_recv c) (Set.mem_univ _) (k := fun _ => kk) (Q := Q) (O := 0) (W := W') (R := 0) (m := (t.val - 1) * NB) (T := T) (cr := Finsupp.single () NB) {(SemLoc.dma cc0_scratch4.sem, ())}
        (by rw [Util.total_single]) (image_single_subset _ _ _))
  iintro ⟨#HR, HI, Hk⟩
  iapply hstep $$ [HI]
  · isplitr; · iapply (inv_at m K (c, .inr (.inl ()))); iexact HR
    isplitr; · rw [MayWait_zero]; iempintro
    iexact HI
  iexact Hk

theorem rest_recv : bigSep ((sched m).duties (recvCell c) 0) (fun u => (sched m).payload (recvCell c) 0 u)
    = bigSep (finFrom 32 1) fun u => (rowsAt m c (peer c u) : sProp 𝕄) := by
  rw [duties_recv]; exact bigSep_congr fun u _ => payload_recv m c u

/-- After the waits: every other device's block in this device's result, and the receive cell's counter back at zero. -/
theorem recv_done (W : Waits sig Unit) :
    iprop(records m K ∗ recvI m c W 32) ⊢ (|={Set.univ}=> iprop(Ow c 0 ∗ semVal (recvCell c) 0
      ∗ bigSep (finFrom 32 1) fun u => rowsAt m c (peer c u)) : sProp 𝕄) := by
  unfold recvI Ow
  iintro ⟨#HR, HI⟩
  imod (drainInv_done (E := ER) (Rd := sched m) (κ := K (c, .inr (.inl ()))) (Es := Set.univ) (Set.mem_univ _) (by decide : 32 - 1 = 31)
    (by decide) (expect_recv m c)) $$ [HI] with ⟨HO, Hat, -, Hpay⟩
  · isplitr; · iapply (inv_at m K (c, .inr (.inl ()))); iexact HR
    iexact HI
  imod (Rounds.cell_close ER (sched m) (Set.mem_univ (K (c, .inr (.inl ())))) (fun h => h) (R := 0 + 1) (duties_later m (recvCell c))) $$ [Hat] with Hz
  · isplitr; · iapply (inv_at m K (c, .inr (.inl ()))); iexact HR
    iexact Hat
  imodintro
  isplitl [HO]; · iexists _; iexact HO
  isplitl [Hz]; · iexact Hz
  iapply (Entails.of_eq (rest_recv m c)); iexact Hpay

end Cert.KernelIdeal.Mesh

end
-- ==== Proof.IdealBuffers.lean ====
/-
The buffers taken apart and put together again: the result by the blocks of rows the devices write, the ring buffer of the
weights by its four slots, the send buffer by its slots, the weights' read permission by quarters.
-/
module

public import proofs.«01_k».proof.Proof.IdealLoops

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit Idealize.ShloMosaic.Transfers

variable {F : FTy → Type} [FloatOps F]

local notation "𝕄" => MT nD τ sig Unit (Elt F) ℕ UU ℕ

variable (m : (ℓ : Loc nD τ sig) → Buf (Elt F) ℓ) (c : Dev nD)

/-! ## Families of parts -/

/-- A whole buffer at any contents, by the parts of a family that covers it without overlap. -/
theorem any_split {T : Type} [Fintype T] [DecidableEq T] {ℓ : Loc nD τ sig} (P : T → Finset (Idx ℓ))
    (hd : ∀ t t', t ≠ t' → Disjoint (P t) (P t')) (hc : (Finset.univ : Finset T).biUnion P = Finset.univ) :
    (iprop(∃ f : Buf (Elt F) ℓ, ℓ ↦{fullShare} f) : sProp 𝕄) ⊢ bigSep Finset.univ fun t => iprop(∃ f : Buf (Elt F) ℓ, ℓ ↦[P t]{fullShare} f) := by
  have h : ∀ f : Buf (Elt F) ℓ, (ℓ ↦{fullShare} f : sProp 𝕄) ⊢ bigSep Finset.univ fun t => iprop(∃ f : Buf (Elt F) ℓ, ℓ ↦[P t]{fullShare} f) := fun f => by
    rw [← hc, pointsTo_biUnion Finset.univ P fun t _ t' _ ht => hd t t' ht]
    exact bigSep_mono fun t _ => (show (ℓ ↦[P t]{fullShare} f : sProp 𝕄) ⊢ iprop(∃ f : Buf (Elt F) ℓ, ℓ ↦[P t]{fullShare} f) from by
      iintro H; iexists f; iexact H)
  iintro ⟨%f, H⟩
  iapply (h f); iexact H

/-- The parts of such a family, each at any contents, as the whole buffer at some contents. -/
theorem any_join {T : Type} [Fintype T] [DecidableEq T] {ℓ : Loc nD τ sig} (P : T → Finset (Idx ℓ)) (f₀ : Buf (Elt F) ℓ)
    (hd : ∀ t t', t ≠ t' → Disjoint (P t) (P t')) (hc : (Finset.univ : Finset T).biUnion P = Finset.univ) :
    (bigSep Finset.univ fun t => (iprop(∃ f : Buf (Elt F) ℓ, ℓ ↦[P t]{fullShare} f) : sProp 𝕄)) ⊢ iprop(∃ f : Buf (Elt F) ℓ, ℓ ↦{fullShare} f) := by
  haveI : ∀ _ : T, Nonempty (Buf (Elt F) ℓ) := fun _ => ⟨f₀⟩
  refine (bigSep_exists_pi (Y := fun _ : T => Buf (Elt F) ℓ) Finset.univ fun t f => (ℓ ↦[P t]{fullShare} f : sProp 𝕄)).trans ?_
  have h : ∀ fs : T → Buf (Elt F) ℓ, (bigSep Finset.univ fun t => (ℓ ↦[P t]{fullShare} fs t : sProp 𝕄)) ⊢ iprop(∃ f : Buf (Elt F) ℓ, ℓ ↦{fullShare} f) := fun fs => by
    refine (pointsTo_biUnion_join Finset.univ P fs f₀ fun t _ t' _ ht => hd t t' ht).trans ?_
    rw [hc]
    iintro ⟨%g, -, H⟩; iexists g; iexact H
  iintro ⟨%fs, H⟩
  iapply (h fs); iexact H

/-- A conjunction over all steps, as the first step's part and the later steps'. -/
theorem first_later (Φ : Fin 32 → sProp 𝕄) : bigSep Finset.univ Φ = iprop(Φ 0 ∗ bigSep (finFrom 32 1) Φ) := by
  rw [← bigSep_finFrom_zero, bigSep_finFrom_succ (by decide : 0 < 32)]; rfl

/-! ## The blocks of rows of the result -/

theorem mem_row (s : Dev nD) (i : S4096x256.Idx) : i ∈ (rowR s).set ↔ 128 * s.val ≤ (i (0 : Fin 2)).val ∧ (i (0 : Fin 2)).val < 128 * s.val + 128 := by
  have h0 : k0_off3 s 0 = 128 * s.val := by rw [k0_off3_eq]; rfl
  have h1 : k0_off3 s 1 = 0 := by rw [k0_off3_eq]; rfl
  rw [Rect.mem_set_unit]
  constructor
  · intro h
    have := h 0
    rw [h0] at this
    exact this
  · intro h a
    match a with
    | (0 : Fin 2) => rw [h0]; exact h
    | (1 : Fin 2) => rw [h1]; exact ⟨Nat.zero_le _, by have : (i (1 : Fin 2)).val < 256 := (i (1 : Fin 2)).isLt; show (i (1 : Fin 2)).val < 0 + 256; omega⟩

theorem row_disjoint (s s' : Dev nD) (h : s ≠ s') : Disjoint (rowR s).set (rowR s').set :=
  Finset.disjoint_left.mpr fun i h1 h2 => h (Fin.ext (by rw [mem_row] at h1 h2; omega))
theorem row_cover : (Finset.univ : Finset (Dev nD)).biUnion (fun s => (rowR s).set) = Finset.univ := by
  refine Finset.eq_univ_iff_forall.mpr fun i => Finset.mem_biUnion.mpr ?_
  have hi : (i (0 : Fin 2)).val < 4096 := (i (0 : Fin 2)).isLt
  exact ⟨⟨(i (0 : Fin 2)).val / 128, by show _ < 32; omega⟩, Finset.mem_univ _, (mem_row _ i).mpr (by constructor <;> dsimp only <;> omega)⟩

theorem rowM_set (s : Dev nD) : (rowM oM s).view.set = (rowR s).set := View.set_slice_whole _ _
/-- The places of the result that device `s` writes. -/
abbrev rowSet (s : Dev nD) : Finset S4096x256.Idx := (rowM oM s).view.set
theorem rowSet_disjoint (s s' : Dev nD) (h : s ≠ s') : Disjoint (rowSet s) (rowSet s') := by
  unfold rowSet; rw [rowM_set, rowM_set]; exact row_disjoint s s' h
theorem rowSet_cover : (Finset.univ : Finset (Dev nD)).biUnion rowSet = Finset.univ := by
  rw [show rowSet = fun s => (rowR s).set from funext rowM_set]; exact row_cover

/-- The staged result at any contents, by the blocks of rows; -/
theorem out_split : (iprop(∃ f, (c : Thread nD τ).loc cc0_stg3_0 ↦{fullShare} f) : sProp 𝕄) ⊢ bigSep Finset.univ fun t : Fin 32 => rowsAny c (peer c t) := by
  have h := any_split (F := F) (ℓ := (c : Thread nD τ).loc cc0_stg3_0) rowSet rowSet_disjoint rowSet_cover
  refine h.trans ?_
  rw [bigSep_univ_equiv (around c)]
  exact Entails.of_eq rfl

/-- and the blocks at the contents the kernel computes, as the whole result. -/
theorem out_join : (bigSep Finset.univ fun t : Fin 32 => rowsAt m c (peer c t)) ⊢ ((c : Thread nD τ).loc cc0_stg3_0 ↦{fullShare} outAt m c : sProp 𝕄) := by
  have e : (bigSep Finset.univ fun t : Fin 32 => rowsAt m c (peer c t)) = bigSep Finset.univ fun s : Dev nD => rowsAt m c s :=
    (bigSep_univ_equiv (around c) fun s : Dev nD => rowsAt m c s).symm
  rw [e]
  have h := owns_of_rects (Val := Elt F) (Ix := Unit) (Name := ℕ) (U := UU) (Lvl := ℕ) (c : Thread nD τ) oM fullShare rowR (fun _ _ => rfl) row_disjoint row_cover (outAt m c)
  rw [owns_whole] at h
  refine BIBase.Entails.trans (bigSep_mono fun s _ => ?_) h
  unfold rowsAt
  rw [← outAt_rows m c s]
  exact Idealize.SL.BI.Entails.refl _

/-! ## The slots of the weights' ring buffer -/

/-- The steps that stand for the four slots. -/
def q4 (k : Fin 4) : Fin 32 := ⟨k.val, Nat.lt_of_lt_of_le k.isLt (by decide)⟩

theorem mem_slot (k : Fin 4) (i : S4x4096x256.Idx) : i ∈ (slotR (q4 k)).set ↔ (i (0 : Fin 3)).val = k.val := by
  have hk : (q4 k).val % 4 = k.val := Nat.mod_eq_of_lt k.isLt
  rw [Rect.mem_set_unit]
  constructor
  · intro h
    have h0 : (q4 k).val % 4 ≤ (i (0 : Fin 3)).val ∧ (i (0 : Fin 3)).val < (q4 k).val % 4 + 1 := h 0
    omega
  · intro h a
    match a with
    | (0 : Fin 3) => exact (show (q4 k).val % 4 ≤ (i (0 : Fin 3)).val ∧ (i (0 : Fin 3)).val < (q4 k).val % 4 + 1 by omega)
    | (1 : Fin 3) => exact ⟨Nat.zero_le _, by have : (i (1 : Fin 3)).val < 4096 := (i (1 : Fin 3)).isLt; show (i (1 : Fin 3)).val < 0 + 4096; omega⟩
    | (2 : Fin 3) => exact ⟨Nat.zero_le _, by have : (i (2 : Fin 3)).val < 256 := (i (2 : Fin 3)).isLt; show (i (2 : Fin 3)).val < 0 + 256; omega⟩

theorem slot_view_set (k : Fin 4) : (slot rM (q4 k)).view.set = (slotR (q4 k)).set := (slot_set (q4 k)).trans (View.set_slice_whole _ _)
/-- The places of a slot. -/
abbrev slotSet (k : Fin 4) : Finset S4x4096x256.Idx := (slot rM (q4 k)).view.set
theorem slot_disjoint (k k' : Fin 4) (h : k ≠ k') : Disjoint (slotSet k) (slotSet k') := by
  unfold slotSet; rw [slot_view_set, slot_view_set]
  exact Finset.disjoint_left.mpr fun i h1 h2 => h (Fin.ext (by rw [mem_slot] at h1 h2; omega))
theorem slot_cover : (Finset.univ : Finset (Fin 4)).biUnion slotSet = Finset.univ := by
  refine Finset.eq_univ_iff_forall.mpr fun i => Finset.mem_biUnion.mpr ?_
  exact ⟨⟨(i (0 : Fin 3)).val, (i (0 : Fin 3)).isLt⟩, Finset.mem_univ _, by unfold slotSet; rw [slot_view_set]; exact (mem_slot _ i).mpr rfl⟩

/-! ## The slots of the send buffer -/

theorem mem_sbuf (t : Fin 32) (i : S32x128x256.Idx) : i ∈ (sbufR t).set ↔ (i (0 : Fin 3)).val = t.val := by
  rw [Rect.mem_set_unit]
  constructor
  · intro h
    have h0 : t.val ≤ (i (0 : Fin 3)).val ∧ (i (0 : Fin 3)).val < t.val + 1 := h 0
    omega
  · intro h a
    match a with
    | (0 : Fin 3) => exact (show t.val ≤ (i (0 : Fin 3)).val ∧ (i (0 : Fin 3)).val < t.val + 1 by omega)
    | (1 : Fin 3) => exact ⟨Nat.zero_le _, by have : (i (1 : Fin 3)).val < 128 := (i (1 : Fin 3)).isLt; show (i (1 : Fin 3)).val < 0 + 128; omega⟩
    | (2 : Fin 3) => exact ⟨Nat.zero_le _, by have : (i (2 : Fin 3)).val < 256 := (i (2 : Fin 3)).isLt; show (i (2 : Fin 3)).val < 0 + 256; omega⟩

theorem sbuf_view_set (t : Fin 32) : (sbuf sM t).view.set = (sbufR t).set := (sbuf_set t).trans (View.set_slice_whole _ _)
/-- The places of a slot. -/
abbrev sbufSet (t : Fin 32) : Finset S32x128x256.Idx := (sbuf sM t).view.set
theorem sbuf_disjoint (t t' : Fin 32) (h : t ≠ t') : Disjoint (sbufSet t) (sbufSet t') := by
  unfold sbufSet; rw [sbuf_view_set, sbuf_view_set]
  exact Finset.disjoint_left.mpr fun i h1 h2 => h (Fin.ext (by rw [mem_sbuf] at h1 h2; omega))
theorem sbuf_cover : (Finset.univ : Finset (Fin 32)).biUnion sbufSet = Finset.univ := by
  refine Finset.eq_univ_iff_forall.mpr fun i => Finset.mem_biUnion.mpr ?_
  exact ⟨⟨(i (0 : Fin 3)).val, (i (0 : Fin 3)).isLt⟩, Finset.mem_univ _, by unfold sbufSet; rw [sbuf_view_set]; exact (mem_sbuf _ i).mpr rfl⟩

/-- The two scratch buffers, whole at some contents. -/
def ringBuf : sProp 𝕄 := iprop(∃ f : Buf (Elt F) ((c : Thread nD τ).loc cc0_scratch0), (c : Thread nD τ).loc cc0_scratch0 ↦{fullShare} f)
def sendBuf : sProp 𝕄 := iprop(∃ f : Buf (Elt F) ((c : Thread nD τ).loc cc0_scratch1), (c : Thread nD τ).loc cc0_scratch1 ↦{fullShare} f)

theorem send_split : (sendBuf c : sProp 𝕄) ⊢ bigSep Finset.univ fun t : Fin 32 => sbufAny c t :=
  any_split (F := F) (ℓ := (c : Thread nD τ).loc cc0_scratch1) sbufSet sbuf_disjoint sbuf_cover
theorem send_join : (bigSep Finset.univ fun t : Fin 32 => (sbufAny c t : sProp 𝕄)) ⊢ sendBuf c :=
  any_join (F := F) (ℓ := (c : Thread nD τ).loc cc0_scratch1) sbufSet (fun _ => Classical.arbitrary _) sbuf_disjoint sbuf_cover
theorem ring_split : (ringBuf c : sProp 𝕄) ⊢ bigSep Finset.univ fun k : Fin 4 => slotAny c (q4 k) :=
  any_split (F := F) (ℓ := (c : Thread nD τ).loc cc0_scratch0) slotSet slot_disjoint slot_cover
theorem ring_join : (bigSep Finset.univ fun k : Fin 4 => (slotAny c (q4 k) : sProp 𝕄)) ⊢ ringBuf c :=
  any_join (F := F) (ℓ := (c : Thread nD τ).loc cc0_scratch0) slotSet (fun _ => Classical.arbitrary _) slot_disjoint slot_cover

/-! ## The weights' read permission -/

/-- The weights whole, and what remains of their permission after four quarters have been dealt. -/
def weights : sProp 𝕄 := (c : Thread nD τ).loc main_arg1 ↦{fullShare} wBuf m c
def weightsRest : sProp 𝕄 := (c : Thread nD τ).loc main_arg1 ↦{shareDrop fullShare 4} wBuf m c

theorem wPts_q4 (k : Fin 4) : wPts m c (q4 k) Finset.univ = ((c : Thread nD τ).loc main_arg1 ↦{shareTok fullShare 4 k} wBuf m c : sProp 𝕄) := by
  unfold wPts
  have h : wShare (q4 k) = shareTok fullShare 4 k := congrArg (shareTok fullShare 4) (Fin.ext (Nat.mod_eq_of_lt k.isLt))
  rw [h]
theorem weights_split : (weights m c : sProp 𝕄) ⊢ iprop(weightsRest m c ∗ bigSep Finset.univ fun k : Fin 4 => wPts m c (q4 k) Finset.univ) := by
  rw [bigSep_congr fun k _ => wPts_q4 m c k]
  exact pointsTo_toks_split fullShare 4
theorem weights_join : iprop(weightsRest m c ∗ bigSep Finset.univ fun k : Fin 4 => wPts m c (q4 k) Finset.univ) ⊢ (weights m c : sProp 𝕄) := by
  rw [bigSep_congr fun k _ => wPts_q4 m c k]
  exact pointsTo_toks_join fullShare 4

/-- The counters of the four copies. -/
def copySems : sProp 𝕄 := bigSep Finset.univ fun k : Fin 4 => semVal (copyCell c (q4 k)) 0

/-- Ring buffer, weights and copy counters as the four slots free, and back. -/
theorem idle_split : iprop(ringBuf c ∗ weights m c ∗ copySems c) ⊢ iprop(weightsRest m c ∗ bigSep Finset.univ fun k : Fin 4 => idle m c (q4 k)) := by
  unfold idle copySems
  rw [bigSep_sep', bigSep_sep']
  iintro ⟨Hr, Hw, Hs⟩
  ihave Hw := (weights_split m c) $$ Hw
  icases Hw with ⟨Hd, Hw⟩
  isplitl [Hd]; · iexact Hd
  isplitl [Hr]; · iapply (ring_split c); iexact Hr
  isplitl [Hw] <;> iassumption
theorem idle_join : iprop(weightsRest m c ∗ bigSep Finset.univ fun k : Fin 4 => idle m c (q4 k)) ⊢ iprop(ringBuf c ∗ weights m c ∗ copySems c) := by
  unfold idle copySems
  rw [bigSep_sep', bigSep_sep']
  iintro ⟨Hd, Hr, Hw, Hs⟩
  isplitl [Hr]; · iapply (ring_join c); iexact Hr
  isplitl [Hd Hw]
  · iapply (weights_join m c)
    isplitl [Hd] <;> iassumption
  iexact Hs

/-- The four slots one by one. -/
theorem idle_four : (bigSep Finset.univ fun k : Fin 4 => idle m c (q4 k))
    = iprop(idle m c 0 ∗ idle m c 1 ∗ idle m c 2 ∗ idle m c 3) :=
  bigSep_univ_eq_bigSepL [(0 : Fin 4), (1 : Fin 4), (2 : Fin 4), (3 : Fin 4)] (by decide) (by decide) _

end Cert.KernelIdeal.Mesh

end
-- ==== Proof.IdealWhole.lean ====
/-
The kernel's body on one device, from the resources it is entered with to those it leaves.
-/
module

public import proofs.«01_k».proof.Proof.IdealBuffers

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit Idealize.ShloMosaic.Transfers

variable {F : FTy → Type} [FloatOps F]

local notation "𝕄" => MT nD τ sig Unit (Elt F) ℕ UU ℕ

variable (m : (ℓ : Loc nD τ sig) → Buf (Elt F) ℓ) (K : Dev nD × Cells → ℕ) (c : Dev nD)

theorem later_ne {t : Fin 32} (h : t ∈ finFrom 32 1) : t ≠ 0 := fun e => by
  have := mem_finFrom.mp h
  rw [e] at this
  exact absurd this (by decide)

/-! ## The stages of the body -/

/-- The handshake: every other device's rows of this device's result are given away, and this device's rows of theirs
    received. -/
theorem wp_handshake (kk : Prog (TpuEff nD τ sig (Elt F) Λ₀ .tc) PUnit) (Q : PUnit → sProp 𝕄) :
    iprop((records m K ∗ levAts L lv) ∗ Ow c (O₀ c) ∗ bigSep (finFrom 32 1) (sigTodo c) ∗ cred (tallyAt (barCell c) () 31)
        ∗ atPos ER (barCell c) 0 ∅ 0
        ∗ ((Ow c (owR c 1) ∗ semVal (barCell c) 0 ∗ bigSep (finFrom 32 1) fun u => rowsAny (peer c u) c) -∗ WP c kk Q))
      ⊢ WP c (runAll steps31 (sigP c) (semWaitWord barS 31#32 >>= fun _ => kk)) Q := by
  have hrun := wp_runAll (F := F) c (R := records m K) (sigI c) (sigP c) Q (semWaitWord barS 31#32 >>= fun _ => kk) steps31 1 steps31_vals
    fun t ht kk => wp_sig m K c t (steps31_ne_zero t ht) kk Q
  rw [show 1 + steps31.length = 32 from rfl] at hrun
  have e : (sigI (F := F) c 32 : sProp 𝕄) = iprop(Ow c (owR c 1) ∗ emp) := by
    unfold sigI; rw [owB_end, add_zero, bigSep_finFrom_self]
  rw [e] at hrun
  iintro ⟨⟨#HR, #Hlev⟩, HO, Hs, Hc, Hat, Hk⟩
  iapply hrun
  isplitr; · iexact HR
  isplitl [HO Hs]
  · unfold sigI
    isplitl [HO]; · unfold O₀; iexact HO
    iexact Hs
  iintro ⟨HO, -⟩
  iapply (wp_barWait m K c kk Q)
  isplitr
  · isplitr; · iexact HR
    iexact Hlev
  isplitl [Hc]; · iexact Hc
  isplitl [HO]; · iexact HO
  isplitl [Hat]; · iexact Hat
  iexact Hk

/-- The staged rows of `x` and the two scales, as held by the device. -/
def inputs : sProp 𝕄 :=
  iprop(((c : Thread nD τ).loc cc0_stg0_0 ↦{fullShare} xin m c) ∗ ((c : Thread nD τ).loc cc0_stg1_0 ↦{fullShare} ain m c)
    ∗ ((c : Thread nD τ).loc cc0_stg2_0 ↦{fullShare} bin m c))

theorem read_x : (xM : Memref sig .tc .vmem S128x4096 .f32).view.readAt (Elt F)
    (Rect.unit (s := S128x4096) ![0, 0] S128x4096.size inb_S128x4096_S128x4096_0_0).toLoadRect (xin m c) = xin m c :=
  Memref.readAt_unit_zero (Elt F) cc0_stg0_0 (by funext a; match a with | (0 : Fin 2) => rfl | (1 : Fin 2) => rfl) _ (xin m c)

/-- Reading the two scales and the rows of `x`. -/
theorem wp_inputs (kk : F .f32 → FVec F S128x4096 .fp8e5m2 → Prog (TpuEff nD τ sig (Elt F) Λ₀ .tc) PUnit) (Q : PUnit → sProp 𝕄) :
    iprop(inputs m c ∗ (inputs m c -∗ WP c (kk (scale m c) (k0_pay2 (xin m c))) Q))
      ⊢ WP c (smemLoad aM (Rect.unit (s := S1) ![0] S1.size inb_S1_S1_0) numel1_S1 rfl >>= fun (v407 : Elt F .f32) =>
          smemLoad bM (Rect.unit (s := S1) ![0] S1.size inb_S1_S1_0) numel1_S1 rfl >>= fun (v408 : Elt F .f32) =>
          Prog.lift (.load xM (Rect.unit (s := S128x4096) ![0, 0] S128x4096.size inb_S128x4096_S128x4096_0_0).toLoadRect
            (View.loadsAt_vmem h_S128x4096)) >>= fun (v410 : Vec F S128x4096 .f32) =>
          kk (k0_pay1 v407 v408) (k0_pay2 v410)) Q := by
  unfold inputs smemLoad smemLoadElt
  simp only [Prog.lift, Prog.bind_op, Prog.bind_ret, Prog.pure_eq_ret]
  iintro ⟨⟨Hx, Ha, Hb⟩, Hk⟩
  iapply (wp_load_rect 𝒱₀ (c : Thread nD τ) none Set.univ (m := aM) (r := oneR) (S := Finset.univ) (Finset.subset_univ _)) $$ Ha
  iintro Ha
  iapply (wp_load_rect 𝒱₀ (c : Thread nD τ) none Set.univ (m := bM) (r := oneR) (S := Finset.univ) (Finset.subset_univ _)) $$ Hb
  iintro Hb
  iapply (wp_load 𝒱₀ (c : Thread nD τ) none Set.univ (m := xM) (S := Finset.univ) (Finset.subset_univ _)) $$ Hx
  iintro Hx
  rw [read_x m c]
  iapply Hk
  isplitl [Hx]; · iexact Hx
  isplitl [Ha] <;> iassumption

theorem iterI_zero : iterI m c 0 = iprop(((busy m c 0 ∗ busy m c 1 ∗ busy m c 2 ∗ idle m c 3) ∗ Ow c (owR c 1))
    ∗ bigSep Finset.univ (iterTodo c) ∗ emp) := by
  unfold iterI
  rw [bigSep_finFrom_zero, bigSep_finUpTo_zero, show stN m c 0 = busy m c 0 from stN_lt m c 0,
    show stN m c (0 + 1) = busy m c 1 from stN_lt m c 1, show stN m c (0 + 2) = busy m c 2 from stN_lt m c 2,
    show idleN m c (0 + 3) = idle m c 3 from (idle_eq m c 3).symm]
  rfl
theorem iterI_end : iterI m c 32 = iprop(((idle m c 0 ∗ idle m c 1 ∗ idle m c 2 ∗ idle m c 3) ∗ Ow c 0)
    ∗ emp ∗ bigSep Finset.univ (iterDone m c)) := by
  unfold iterI
  rw [bigSep_finFrom_self, bigSep_finUpTo_self, stN_ge m c (by decide : ¬ 32 < 32), stN_ge m c (by decide : ¬ 32 + 1 < 32),
    stN_ge m c (by decide : ¬ 32 + 2 < 32),
    show idleN m c 32 = idle m c 0 from idle_congr m c (by decide), show idleN m c (32 + 1) = idle m c 1 from idle_congr m c (by decide),
    show idleN m c (32 + 2) = idle m c 2 from idle_congr m c (by decide), show idleN m c (32 + 3) = idle m c 3 from idle_congr m c (by decide),
    show owR c (max 1 32) = 0 from owR_end c]

/-- The products: from free slots and what every step takes, to free slots and what every step leaves. -/
theorem wp_products (kk : Prog (TpuEff nD τ sig (Elt F) Λ₀ .tc) PUnit) (Q : PUnit → sProp 𝕄) :
    iprop((records m K ∗ levAts L lv) ∗ (idle m c 0 ∗ idle m c 1 ∗ idle m c 2 ∗ idle m c 3) ∗ Ow c (owR c 1)
        ∗ bigSep Finset.univ (iterTodo c)
        ∗ (((idle m c 0 ∗ idle m c 1 ∗ idle m c 2 ∗ idle m c 3) ∗ Ow c 0 ∗ bigSep Finset.univ (iterDone m c)) -∗ WP c kk Q))
      ⊢ WP c (startP wM rM cc0_scratch2 c 0 >>= fun _ => startP wM rM cc0_scratch2 c 1 >>= fun _ => startP wM rM cc0_scratch2 c 2 >>= fun _ =>
          runAll steps32 (iterP wM oM rM sM cc0_scratch2 cc0_scratch3 cc0_scratch4 c (scale m c) (k0_pay2 (xin m c))) kk) Q := by
  have hrun := wp_runAll c (R := iprop(records m K ∗ levAts L lv)) (iterI m c)
    (iterP wM oM rM sM cc0_scratch2 cc0_scratch3 cc0_scratch4 c (scale m c) (k0_pay2 (xin m c))) Q kk steps32 0 steps32_vals
    fun t _ kk => wp_iter m K c t kk Q
  rw [show 0 + steps32.length = 32 from rfl, iterI_zero, iterI_end] at hrun
  iintro ⟨#HR, ⟨H0, H1, H2, H3⟩, HO, HT, Hk⟩
  iapply (wp_start m c 0)
  isplitl [H0]; · iexact H0
  iintro H0
  iapply (wp_start m c 1)
  isplitl [H1]; · iexact H1
  iintro H1
  iapply (wp_start m c 2)
  isplitl [H2]; · iexact H2
  iintro H2
  iapply hrun
  isplitr; · iexact HR
  isplitl [H0 H1 H2 H3 HO HT]
  · isplitl [H0 H1 H2 H3 HO]
    · isplitr [HO]
      · isplitl [H0]; · iexact H0
        isplitl [H1]; · iexact H1
        isplitl [H2] <;> iassumption
      · iexact HO
    isplitl [HT]; · iexact HT
    iempintro
  iintro ⟨⟨Hi, HO⟩, -, HD⟩
  iapply Hk
  isplitl [Hi]; · iexact Hi
  isplitl [HO] <;> iassumption

/-- The waits for the sends: all slots of the send buffer back, all send counters at zero. -/
theorem wp_sends (kk : Prog (TpuEff nD τ sig (Elt F) Λ₀ .tc) PUnit) (Q : PUnit → sProp 𝕄) :
    iprop(records m K ∗ Ow c 0 ∗ bigSep (finFrom 32 1) (sentTodo c) ∗ sentDone c 0
        ∗ ((Ow c 0 ∗ bigSep Finset.univ (sentDone c)) -∗ WP c kk Q))
      ⊢ WP c (runAll steps31 (sentP oM sM cc0_scratch3 c) kk) Q := by
  have hrun := wp_runAll (F := F) c (R := records m K) (sentI c) (sentP oM sM cc0_scratch3 c) Q kk steps31 1 steps31_vals
    fun t ht kk => wp_sent m K c t (steps31_ne_zero t ht) kk Q
  rw [show 1 + steps31.length = 32 from rfl] at hrun
  have e1 : (sentI (F := F) c 1 : sProp 𝕄) = iprop(Ow c 0 ∗ bigSep (finFrom 32 1) (sentTodo c) ∗ sentDone c 0 ∗ emp) := by
    unfold sentI
    rw [show (1 : ℕ) = 0 + 1 from rfl, bigSep_finUpTo_succ (by decide : 0 < 32), bigSep_finUpTo_zero]; rfl
  have e2 : (sentI (F := F) c 32 : sProp 𝕄) = iprop(Ow c 0 ∗ emp ∗ bigSep Finset.univ (sentDone c)) := by
    unfold sentI
    rw [bigSep_finFrom_self, bigSep_finUpTo_self]
  rw [e1, e2] at hrun
  iintro ⟨#HR, HO, HT, HD, Hk⟩
  iapply hrun
  isplitr; · iexact HR
  isplitl [HO HT HD]
  · isplitl [HO]; · iexact HO
    isplitl [HT]; · iexact HT
    isplitl [HD]; · iexact HD
    iempintro
  iintro ⟨HO, -, HD⟩
  iapply Hk
  isplitl [HO] <;> iassumption

/-- The waits for the other devices' blocks: all of them in this device's result. -/
theorem wp_recvs (kk : Prog (TpuEff nD τ sig (Elt F) Λ₀ .tc) PUnit) (Q : PUnit → sProp 𝕄) :
    iprop(records m K ∗ Ow c 0 ∗ cred (tallyAt (recvCell c) () (31 * NB)) ∗ atPos ER (recvCell c) 0 ∅ 0
        ∗ ((Ow c 0 ∗ semVal (recvCell c) 0 ∗ bigSep (finFrom 32 1) fun u => rowsAt m c (peer c u)) -∗ WP c kk Q))
      ⊢ WP c (runAll steps31 (fun _ => recvP oM sM cc0_scratch4) kk) Q := by
  have hrun := fun W => wp_runAll c (R := records m K) (recvI m c W) (fun _ => recvP oM sM cc0_scratch4) Q kk steps31 1 steps31_vals
    fun t ht kk => wp_recv m K c W t (steps31_ne_zero t ht) kk Q
  have h0 : ∀ W, iprop(owes (c : Thread nD τ) 0 W ∗ cred (tallyAt (recvCell c) () (31 * NB)) ∗ atPos ER (recvCell c) 0 ∅ 0)
      ⊢ (recvI m c W 1 : sProp 𝕄) := fun W => drainInv_zero
  unfold Ow
  iintro ⟨#HR, ⟨%W, HO⟩, Hc, Hat, Hk⟩
  iapply (hrun W)
  isplitr; · iexact HR
  isplitl [HO Hc Hat]
  · iapply (h0 W)
    isplitl [HO]; · iexact HO
    isplitl [Hc] <;> iassumption
  iintro HI
  imod (recv_done m K c W) $$ [HI] with ⟨HO, Hz, Hp⟩
  · isplitr; · iexact HR
    iexact HI
  iapply Hk
  isplitl [HO]; · unfold Ow; iexact HO
  isplitl [Hz] <;> iassumption

/-! ## What the steps take and leave, gathered -/

theorem iterTodo_eq : (bigSep Finset.univ (iterTodo (F := F) c) : sProp 𝕄)
    = iprop(rowsAny c c ∗ (bigSep (finFrom 32 1) fun t => sbufAny c t) ∗ (bigSep (finFrom 32 1) fun t => rowsAny (peer c t) c)
      ∗ (bigSep (finFrom 32 1) fun t => dutyTok ER (sendCell c t) 0 0)
      ∗ bigSep (finFrom 32 1) fun t => dutyTok ER (recvCell (peer c t)) 0 (back t)) := by
  rw [first_later, ← bigSep_sep', ← bigSep_sep', ← bigSep_sep']
  have h : ∀ t ∈ finFrom 32 1, (iterTodo (F := F) c t : sProp 𝕄)
      = iprop(sbufAny c t ∗ rowsAny (peer c t) c ∗ dutyTok ER (sendCell c t) 0 0 ∗ dutyTok ER (recvCell (peer c t)) 0 (back t)) := fun t ht => by
    unfold iterTodo; exact if_neg (later_ne ht)
  rw [bigSep_congr h]
  rfl
theorem iterDone_eq : (bigSep Finset.univ (iterDone m c) : sProp 𝕄)
    = iprop(rowsAt m c c ∗ bigSep (finFrom 32 1) fun t => cred (tallyAt (sendCell c t) () NB)) := by
  rw [first_later]
  have h : ∀ t ∈ finFrom 32 1, (iterDone m c t : sProp 𝕄) = cred (tallyAt (sendCell c t) () NB) := fun t ht => by
    unfold iterDone; exact if_neg (later_ne ht)
  rw [bigSep_congr h]
  rfl

/-- The places of the device at its cells, and the tokens of the duties it pays. -/
def places : sProp 𝕄 :=
  iprop(atPos ER (barCell c) 0 ∅ 0 ∗ atPos ER (recvCell c) 0 ∅ 0 ∗ bigSep Finset.univ fun t : Fin 32 => atPos ER (sendCell c t) 0 ∅ 0)
def tokens : sProp 𝕄 :=
  iprop((bigSep Finset.univ fun t : Fin 32 => dutyTok ER (barCell (peer c t)) 0 (back t))
    ∗ (bigSep Finset.univ fun t : Fin 32 => dutyTok ER (recvCell (peer c t)) 0 (back t))
    ∗ bigSep Finset.univ fun t : Fin 32 => dutyTok ER (sendCell c t) 0 0)
/-- The credit the device is granted at launch. -/
def credits : sProp 𝕄 := iprop(cred (tallyAt (barCell c) () 31) ∗ cred (tallyAt (recvCell c) () (31 * NB)))

/-- The counters of the protocol's cells, back at zero. -/
def zeros : sProp 𝕄 :=
  iprop((bigSep Finset.univ fun t : Fin 32 => semVal (sendCell c t) 0) ∗ semVal (recvCell c) 0 ∗ semVal (barCell c) 0)

/-- The counter of the first step's send cell, which nothing is paid into. -/
theorem close_first : iprop(records m K ∗ atPos ER (sendCell c 0) 0 ∅ 0) ⊢ (|={Set.univ}=> semVal (sendCell c 0) 0 : sProp 𝕄) := by
  iintro ⟨#HR, Hat⟩
  iapply (Rounds.cell_close ER (sched m) (Set.mem_univ (K (c, .inr (.inr 0)))) (fun h => h) (R := 0) (duties_send_zero m c))
  isplitr; · iapply (inv_at m K (c, .inr (.inr 0))); iexact HR
  iexact Hat

/-- The whole body. -/
theorem wp_whole (Q : PUnit → sProp 𝕄) :
    iprop((records m K ∗ levAts L lv) ∗ (places c ∗ tokens c ∗ credits c) ∗ (ringBuf c ∗ weights m c ∗ copySems c) ∗ sendBuf c
        ∗ Ow c (O₀ c) ∗ inputs m c ∗ (∃ f, (c : Thread nD τ).loc cc0_stg3_0 ↦{fullShare} f)
        ∗ (((ringBuf c ∗ weights m c ∗ copySems c) ∗ sendBuf c ∗ zeros c ∗ Ow c 0 ∗ inputs m c
            ∗ ((c : Thread nD τ).loc cc0_stg3_0 ↦{fullShare} outAt m c)) -∗ Q ⟨⟩))
      ⊢ WP c (bodyP xM wM aM bM oM rM sM cc0_scratch2 cc0_scratch3 cc0_scratch4) Q := by
  have hdev : ∀ f : Dev nD → Prog (TpuEff nD τ sig (Elt F) Λ₀ .tc) PUnit, WP c (Prog.lift .deviceId >>= f) Q = WP c (f c) Q := fun f => by
    simp only [Prog.lift, Prog.bind_op, Prog.bind_ret]; exact wp_deviceId ..
  have hret : (|={Set.univ}=> Q ⟨⟩) ⊢ WP c (pure ⟨⟩) Q := by
    unfold WP; rw [Prog.pure_eq_ret, wp_ret]
  unfold bodyP
  rw [hdev]
  unfold places tokens credits
  iintro ⟨#HR, ⟨⟨HatB, HatV, HatS⟩, ⟨HtB, HtV, HtS⟩, HcB, HcV⟩, Hidle, Hsb, HO, Hin, Hout, Hk⟩
  icases HR with ⟨#HRr, #Hlev⟩
  -- the parts
  ihave Hidle := (idle_split m c) $$ Hidle
  icases Hidle with ⟨Hwr, Hidle⟩
  ihave Hidle := (Entails.of_eq (idle_four m c)) $$ Hidle
  ihave Hsb := (send_split c) $$ Hsb
  ihave Hsb := (Entails.of_eq (first_later fun t => sbufAny c t)) $$ Hsb
  icases Hsb with ⟨Hsb0, Hsb⟩
  ihave Hout := (out_split c) $$ Hout
  ihave Hout := (Entails.of_eq (first_later fun t => rowsAny c (peer c t))) $$ Hout
  icases Hout with ⟨Hown, Hout⟩
  ihave HatS := (Entails.of_eq (first_later fun t => atPos ER (sendCell c t) 0 ∅ 0)) $$ HatS
  icases HatS with ⟨HatS0, HatS⟩
  ihave HtB := (Entails.of_eq (first_later fun t => dutyTok ER (barCell (peer c t)) 0 (back t))) $$ HtB
  icases HtB with ⟨-, HtB⟩
  ihave HtV := (Entails.of_eq (first_later fun t => dutyTok ER (recvCell (peer c t)) 0 (back t))) $$ HtV
  icases HtV with ⟨-, HtV⟩
  ihave HtS := (Entails.of_eq (first_later fun t => dutyTok ER (sendCell c t) 0 0)) $$ HtS
  icases HtS with ⟨-, HtS⟩
  -- the stages
  iapply (wp_handshake m K c)
  isplitr
  · isplitr; · iexact HRr
    iexact Hlev
  isplitl [HO]; · iexact HO
  isplitl [HtB Hout]
  · unfold sigTodo
    iapply (Entails.of_eq (bigSep_sep' (finFrom 32 1) (fun t => dutyTok ER (barCell (peer c t)) 0 (back t)) fun t => rowsAny c (peer c t)).symm)
    isplitl [HtB] <;> iassumption
  isplitl [HcB]; · iexact HcB
  isplitl [HatB]; · iexact HatB
  iintro ⟨HO, HzB, Hrows⟩
  iapply (wp_inputs m c fun s x => startP wM rM cc0_scratch2 c 0 >>= fun _ => startP wM rM cc0_scratch2 c 1 >>= fun _ =>
    startP wM rM cc0_scratch2 c 2 >>= fun _ =>
    runAll steps32 (iterP wM oM rM sM cc0_scratch2 cc0_scratch3 cc0_scratch4 c s x) <|
    runAll steps31 (sentP oM sM cc0_scratch3 c) <| runAll steps31 (fun _ => recvP oM sM cc0_scratch4) <| pure ⟨⟩)
  isplitl [Hin]; · iexact Hin
  iintro Hin
  iapply (wp_products m K c)
  isplitr
  · isplitr; · iexact HRr
    iexact Hlev
  isplitl [Hidle]; · iexact Hidle
  isplitl [HO]; · iexact HO
  isplitl [Hown Hsb Hrows HtS HtV]
  · iapply (Entails.of_eq (iterTodo_eq c).symm)
    isplitl [Hown]
    · iapply (Entails.of_eq (congrArg (fun d => (rowsAny c d : sProp 𝕄)) (peer_zero c))); iexact Hown
    isplitl [Hsb]; · iexact Hsb
    isplitl [Hrows]; · iexact Hrows
    isplitl [HtS] <;> iassumption
  iintro ⟨Hidle, HO, HD⟩
  ihave HD := (Entails.of_eq (iterDone_eq m c)) $$ HD
  icases HD with ⟨Hown, HcS⟩
  imod (close_first m K c) $$ [HatS0] with HzS0
  · isplitr; · iexact HRr
    iexact HatS0
  iapply (wp_sends m K c)
  isplitr; · iexact HRr
  isplitl [HO]; · iexact HO
  isplitl [HcS HatS]
  · unfold sentTodo
    iapply (Entails.of_eq (bigSep_sep' (finFrom 32 1) (fun t => cred (tallyAt (sendCell c t) () NB)) fun t => atPos ER (sendCell c t) 0 ∅ 0).symm)
    isplitl [HcS] <;> iassumption
  isplitl [HzS0 Hsb0]
  · unfold sentDone
    isplitl [HzS0] <;> iassumption
  iintro ⟨HO, HD⟩
  iapply (wp_recvs m K c)
  isplitr; · iexact HRr
  isplitl [HO]; · iexact HO
  isplitl [HcV]; · iexact HcV
  isplitl [HatV]; · iexact HatV
  iintro ⟨HO, HzV, Hrows⟩
  -- the parts together again
  iapply hret; imodintro
  unfold sentDone
  ihave HD := (Entails.of_eq (bigSep_sep' Finset.univ (fun t => semVal (sendCell c t) 0) fun t => sbufAny c t)) $$ HD
  icases HD with ⟨HzS, Hsb⟩
  iapply Hk
  isplitl [Hwr Hidle]
  · iapply (idle_join m c)
    isplitl [Hwr]; · iexact Hwr
    iapply (Entails.of_eq (idle_four m c).symm); iexact Hidle
  isplitl [Hsb]; · iapply (send_join c); iexact Hsb
  isplitl [HzS HzV HzB]
  · unfold zeros
    isplitl [HzS]; · iexact HzS
    isplitl [HzV] <;> iassumption
  isplitl [HO]; · iexact HO
  isplitl [Hin]; · iexact Hin
  iapply (out_join m c)
  iapply (Entails.of_eq (first_later fun t => rowsAt m c (peer c t)).symm)
  isplitl [Hown]
  · iapply (Entails.of_eq (congrArg (fun d => (rowsAt m c d : sProp 𝕄)) (peer_zero c)).symm); iexact Hown
  iexact Hrows

end Cert.KernelIdeal.Mesh

end
-- ==== Proof.IdealData.lean ====
/-
The kernel on the mesh: the pipeline's data, the body's obligation, the launch, and the run of the whole program.
-/
module

public import proofs.«01_k».proof.Proof.IdealWhole
public import proofs.«01_k».proof.Proof.Gen.KernelIdeal.Launch
public import proofs.«01_k».proof.Proof.Gen.KernelIdeal.Points
public import Idealize.ShloMosaic.Lib.Pipeline.CollectiveSegs

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The kernel's own semaphores: the four of the copies, those of the sends, the one of the receives. -/
abbrev Own : Type := Fin 4 ⊕ (Fin 32 ⊕ Unit)
def osem : Own → SemLoc sig
  | .inl k => .dma (cSem cc0_scratch2 (q4 k))
  | .inr (.inl t) => .dma (sSem cc0_scratch3 t)
  | .inr (.inr _) => .dma cc0_scratch4.sem

/-- What a device is given at launch, at some names of the invariants. -/
def ghost (c : Dev nD) : sProp 𝕄 := iprop(∃ K, records m K ∗ places c ∗ tokens c)
/-- What its body starts from, and what it ends with. -/
def start (c : Dev nD) : sProp 𝕄 := iprop((ghost m c ∗ copySems c) ∗ credits c ∗ levAts L lv ∗ weights m c)
def Φ₀ (c : Dev nD) : sProp 𝕄 := iprop(start m c ∗ ringBuf c ∗ sendBuf c)
def Φ₁ (c : Dev nD) : sProp 𝕄 := iprop((ringBuf c ∗ weights m c ∗ copySems c) ∗ sendBuf c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m c
    | ⟨1, _⟩ => ain m c
    | ⟨2, _⟩ => bin m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body's obligation -/

/-- A staging buffer of device `c`, whole at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def bodyPost (c : Dev nD) : sProp 𝕄 :=
  iprop(Φ₁ m c ∗ (dats m ρ 0 c).owesAt () t0_0.succ
    ∗ stg c cc0_stg0_0 (xin m c) ∗ stg c cc0_stg1_0 (ain m c) ∗ stg c cc0_stg2_0 (bin m c) ∗ stg c cc0_stg3_0 (outAt m c))

theorem before_x (c : Dev nD) (d) : (dats m ρ 0 c).before (0 : Fin 4) t0_0 d = xin m c := by
  unfold Dat.before; rw [if_pos (fetch0_0 t0_0)]; rfl
theorem before_a (c : Dev nD) (d) : (dats m ρ 0 c).before (1 : Fin 4) t0_0 d = ain m c := by
  unfold Dat.before; rw [if_pos (fetch0_1 t0_0)]; rfl
theorem before_b (c : Dev nD) (d) : (dats m ρ 0 c).before (2 : Fin 4) t0_0 d = bin m c := by
  unfold Dat.before; rw [if_pos (fetch0_2 t0_0)]; rfl

/-- The body of the kernel, as the pipeline calls it, from its precondition to its postcondition. -/
theorem body_sound (c : Dev nD) : bodyPre m ρ c ⊢ WP c (bodyP xM wM aM bM oM rM sM cc0_scratch2 cc0_scratch3 cc0_scratch4) fun _ => bodyPost m ρ c := by
  unfold bodyPre Φ₀ start ghost Dat.owesAt Pipeline.owesWithin
  rw [show (dats m ρ 0 c).owed t0_0.castSucc = O₀ c from rfl]
  iintro ⟨⟨⟨⟨⟨%K, #HR, Hpl, Htk⟩, Hcs⟩, Hcr, #Hlev, Hw⟩, Hrb, Hsb⟩, ⟨%W, %hW, HO⟩, ⟨%d0, %g0, %hg0, Hx⟩, ⟨%d1, %g1, %hg1, Ha⟩, ⟨%d2, %g2, %hg2, Hb⟩, ⟨%d3, %g3, -, Hout⟩⟩
  rw [before_x] at hg0; rw [before_a] at hg1; rw [before_b] at hg2
  subst hg0 hg1 hg2
  iapply (wp_whole m K c fun _ => bodyPost m ρ c)
  isplitr
  · isplitr; · iexact HR
    iexact Hlev
  isplitl [Hpl Htk Hcr]
  · isplitl [Hpl]; · iexact Hpl
    isplitl [Htk] <;> iassumption
  isplitl [Hrb Hw Hcs]
  · isplitl [Hrb]; · iexact Hrb
    isplitl [Hw] <;> iassumption
  isplitl [Hsb]; · iexact Hsb
  isplitl [HO]; · unfold Ow; iexists W; iexact HO
  isplitl [Hx Ha Hb]
  · unfold inputs
    isplitl [Hx]; · iexact Hx
    isplitl [Ha] <;> iassumption
  isplitl [Hout]; · iexists g3; iexact Hout
  iintro ⟨Hrest, Hsb, Hz, HO, Hin, Hout⟩
  unfold bodyPost Φ₁ Dat.owesAt Pipeline.owesWithin inputs Ow
  rw [show (dats m ρ 0 c).owed t0_0.succ = 0 from rfl]
  icases HO with ⟨%W', HO⟩
  icases Hin with ⟨Hx, Ha, Hb⟩
  isplitl [Hrest Hsb Hz]
  · isplitl [Hrest]; · iexact Hrest
    isplitl [Hsb] <;> iassumption
  isplitl [HO]
  · iexists W'
    isplitr; · ipureintro; exact fun _ _ => Or.inl trivial
    iexact HO
  isplitl [Hx]
  · iexists _; isplitr; · (ipureintro; rfl)
    iexact Hx
  isplitl [Ha]
  · iexists _; isplitr; · (ipureintro; rfl)
    iexact Ha
  isplitl [Hb]
  · iexists _; isplitr; · (ipureintro; rfl)
    iexact Hb
  iexists _; isplitr; · (ipureintro; rfl)
  iexact Hout

/-- The pipeline's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ (bodyAt0 t0_0) (fun _ => bodyPost m ρ c)
  have e : (bodyAt0 t0_0 : Prog (TpuEff nD τ sig (Elt F) Λ₀ .tc) PUnit) = bodyP xM wM aM bM oM rM sM cc0_scratch2 cc0_scratch3 cc0_scratch4 :=
    body_eq _ _ _ _ _ _ _ _ _ _ _ _ _ _ _ _ _
  rw [e]
  exact body_sound m ρ c

end Cert.KernelIdeal.Mesh

end
-- ==== Proof.IdealLaunch.lean ====
/-
The launch of the mesh: the semaphores and the ghost state dealt to the devices, and the run of the whole program.
-/
module

public import proofs.«01_k».proof.Proof.IdealData

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit Idealize.ShloMosaic.Transfers

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide +kernel
theorem share_eq (c : Dev nD) (w : Fin cfg0.W) : (dats m ρ 0 c).share w = fullShare := by unfold Dat.share; split <;> rfl

/-! ## The cells and the tokens at launch -/

theorem csem_injective : Function.Injective csem := by decide +kernel
theorem kcell_injective : Function.Injective (kcell : Dev nD × Cells → GSem nD τ sig) := by
  rintro ⟨c, k⟩ ⟨c', k'⟩ h
  have h1 : c = c' := congrArg (fun g : GSem nD τ sig => g.1.1) h
  have h2 : k = k' := csem_injective (congrArg Prod.snd h)
  rw [h1, h2]
def meshCells : Finset (GSem nD τ sig) := Finset.univ.map ⟨kcell, kcell_injective⟩

/-- The duties of one device's cells: those of its handshake cell, of its receive cell, of its send cells. -/
abbrev Duties : Type := Fin 32 ⊕ (Fin 32 ⊕ Fin 32)
def tokOf (cj : Dev nD × Duties) : GSem nD τ sig × ℕ × Fin 32 := match cj.2 with
  | .inl u => (kcell (cj.1, .inl ()), 0, u)
  | .inr (.inl u) => (kcell (cj.1, .inr (.inl ())), 0, u)
  | .inr (.inr t) => (kcell (cj.1, .inr (.inr t)), 0, 0)
theorem tokOf_injective : Function.Injective tokOf := by
  rintro ⟨c, j⟩ ⟨c', j'⟩ h
  have hk := kcell_injective (a₁ := (c, match j with | .inl _ => .inl () | .inr (.inl _) => .inr (.inl ()) | .inr (.inr t) => .inr (.inr t)))
    (a₂ := (c', match j' with | .inl _ => .inl () | .inr (.inl _) => .inr (.inl ()) | .inr (.inr t) => .inr (.inr t)))
    (by rcases j with u | u | u <;> rcases j' with u' | u' | u' <;> exact congrArg Prod.fst h)
  have hd := congrArg (fun x : GSem nD τ sig × ℕ × Fin 32 => x.2.2) h
  obtain ⟨h1, h2⟩ := Prod.mk.inj hk
  subst h1
  rcases j with u | u | u <;> rcases j' with u' | u' | u'
  · exact congrArg (fun u => (c, (.inl u : Duties))) hd
  · exact absurd h2 (by simp)
  · exact absurd h2 (by simp)
  · exact absurd h2 (by simp)
  · exact congrArg (fun u => (c, (.inr (.inl u) : Duties))) hd
  · exact absurd h2 (by simp)
  · exact absurd h2 (by simp)
  · exact absurd h2 (by simp)
  · exact congrArg (fun u => (c, (.inr (.inr u) : Duties))) (Sum.inr.inj (Sum.inr.inj h2))
def meshToks : Finset (GSem nD τ sig × ℕ × Fin 32) := Finset.univ.map ⟨tokOf, tokOf_injective⟩

def u₀ : UU :=
  (initOf (Pipeline.cells cfgs cellOf_inj) (Pipeline.launchToks cfgs cellOf_inj), (initOf meshCells meshToks, 1))

/-- The tokens of the duties of device `c`'s own cells. -/
def ownToks (c : Dev nD) : sProp 𝕄 :=
  iprop((bigSep Finset.univ fun u : Fin 32 => dutyTok ER (barCell c) 0 u) ∗ (bigSep Finset.univ fun u : Fin 32 => dutyTok ER (recvCell c) 0 u)
    ∗ bigSep Finset.univ fun t : Fin 32 => dutyTok ER (sendCell c t) 0 0)

/-- What the launch deals device `c`. -/
def G (c : Dev nD) : sProp 𝕄 :=
  iprop((bigSep Finset.univ fun k : Cells => roundState ER (sched m) (kcell (c, k)) 0)
    ∗ ((bigSep Finset.univ fun k : Cells => atPos ER (kcell (c, k)) 0 ∅ 0) ∗ bigSep Finset.univ fun k : Cells => reached ER (kcell (c, k)) 0)
    ∗ ownToks c)
/-- What is made of it once every device has opened its cells. -/
def G' (c : Dev nD) : sProp 𝕄 := iprop(ghost m c ∗ copySems c)

/-- A conjunction over the cells of a device, by kinds. -/
theorem cells_split (Φ : Cells → sProp 𝕄) : bigSep Finset.univ Φ
    = iprop(Φ (.inl ()) ∗ Φ (.inr (.inl ())) ∗ bigSep Finset.univ fun t : Fin 32 => Φ (.inr (.inr t))) := by
  rw [bigSep_univ_sum, bigSep_univ_sum, bigSep_univ_of_subsingleton (), bigSep_univ_of_subsingleton ()]
  rfl

/-- The second part of the launch's ghost state is the protocol's own. -/
theorem own_mesh : (BI.own (embR ((initOf meshCells meshToks, 1) : UB × Counters)) : sProp 𝕄) ⊢ BI.own (ER (initOf meshCells meshToks)) :=
  BIBase.Entails.rfl

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : Cells => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => ownToks c := by
    unfold meshToks; rw [bigSep_map, bigSep_univ_prod]
    exact bigSep_congr fun c _ => by unfold ownToks; rw [bigSep_univ_sum, bigSep_univ_sum]; rfl
  iintro HX
  imod (Rounds.fund ER (sched m) meshCells meshToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at launch -/

theorem ownSems0_eq (c : Dev nD) : (Pipeline.ownSems0 (Ix := Unit) (Name := ℕ) (U := UU) (Lvl := ℕ) (Val := Elt F) (τ := τ) osem c : sProp 𝕄)
    = iprop(copySems c ∗ (bigSep Finset.univ fun t : Fin 32 => semVal (sendCell c t) 0) ∗ semVal (recvCell c) 0) := by
  unfold Pipeline.ownSems0 copySems
  rw [bigSep_univ_sum, bigSep_univ_sum, bigSep_univ_of_subsingleton ()]
  rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- The counters of the launch, as those of the protocol's cells and those of the copies. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Cells => semVal (kcell (c, k)) 0) ∗ copySems c) : sProp 𝕄) := by
  rw [ownSems0_eq, unscopedSems0_eq, cells_split]
  iintro ⟨⟨HC, HS, HV⟩, HB⟩
  isplitr [HC]
  · isplitl [HB]; · iexact HB
    isplitl [HV]; · iexact HV
    iexact HS
  · iexact HC

/-- Device `c` opens its cells. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cells => iprop(∃ κ : ℕ, cellInv ER (sched m) κ (kcell (c, k))))
          ∗ (bigSep Finset.univ fun k : Cells => reached ER (kcell (c, k)) 0)
          ∗ ownToks c ∗ places c ∗ copySems c) := by
  have hp : (bigSep Finset.univ fun k : Cells => (atPos ER (kcell (c, k)) 0 ∅ 0 : sProp 𝕄)) = places c := by rw [cells_split]; rfl
  unfold G
  rw [hp]
  iintro ⟨Hos, Hus, Hst, ⟨Hat, Hr⟩, Htok⟩
  ihave Hv := (sems0_eq (F := F) c) $$ [Hos Hus]
  · isplitl [Hos] <;> iassumption
  icases Hv with ⟨Hv, Hcs⟩
  imod (show iprop((bigSep Finset.univ fun k : Cells => semVal (kcell (c, k)) 0) ∗ bigSep Finset.univ fun k : Cells => roundState ER (sched m) (kcell (c, k)) 0)
      ⊢ (|={Set.univ}=> bigSep Finset.univ fun k : Cells => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat] <;> iassumption

/-- The tokens dealt round the mesh: each device's to the devices that pay under them. -/
theorem toks_around : (bigSep Finset.univ fun c : Dev nD => (ownToks c : sProp 𝕄)) ⊢ bigSep Finset.univ fun c : Dev nD => tokens c := by
  have hround : ∀ Φ : Dev nD → Fin 32 → sProp 𝕄, (bigSep Finset.univ fun c => bigSep Finset.univ fun u => Φ c u)
      = bigSep Finset.univ fun c => bigSep Finset.univ fun t => Φ (peer c t) (back t) := fun Φ => by
    rw [← bigSep_univ_prod (fun x : Dev nD × Fin 32 => Φ x.1 x.2), bigSep_univ_equiv flip, bigSep_univ_prod]
    rfl
  unfold ownToks tokens
  rw [bigSep_sep', bigSep_sep', bigSep_sep', bigSep_sep',
    hround fun c u => dutyTok ER (barCell c) 0 u, hround fun c u => dutyTok ER (recvCell c) 0 u]

/-- A shared fact goes into every member of a family. -/
theorem share_fact {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Cells → ℕ) (c : Dev nD) : iprop(records m K ∗ (tokens c ∗ places c ∗ copySems c)) ⊢ G' m c := by
  unfold G' ghost
  iintro ⟨#HR, Ht, Hp, Hs⟩
  isplitr [Hs]
  · iexists K
    isplitr; · iexact HR
    isplitl [Hp] <;> iassumption
  · iexact Hs

theorem regroup :
    (bigSep Finset.univ fun c : Dev nD => iprop((bigSep Finset.univ fun k : Cells => iprop(∃ κ : ℕ, cellInv ER (sched m) κ (kcell (c, k))))
          ∗ (bigSep Finset.univ fun k : Cells => reached ER (kcell (c, k)) 0)
          ∗ ownToks c ∗ places c ∗ copySems c) : sProp 𝕄)
      ⊢ bigSep Finset.univ (G' m) := by
  rw [bigSep_sep', bigSep_sep', bigSep_sep', ← bigSep_univ_prod (fun ck : Dev nD × Cells => iprop(∃ κ : ℕ, cellInv ER (sched m) κ (kcell ck))),
    ← bigSep_univ_prod (fun ck : Dev nD × Cells => (reached ER (kcell ck) 0 : sProp 𝕄))]
  iintro ⟨HI, #HR, Htok, Hrest⟩
  ihave HK := (BI.bigSep_exists_pi Finset.univ (fun (ck : Dev nD × Cells) (κ : ℕ) => (cellInv ER (sched m) κ (kcell ck) : sProp 𝕄))) $$ HI
  icases HK with ⟨%K, #HI⟩
  ihave Htk := (toks_around (F := F)) $$ Htok
  iapply (share_fact (R := records m K) fun c _ => ghost_intro m K c)
  isplitr
  · unfold records; isplitl; · iexact HI
    iexact HR
  · iapply (Entails.of_eq (bigSep_sep' Finset.univ (fun c : Dev nD => (tokens c : sProp 𝕄)) fun c => iprop(places c ∗ copySems c)).symm)
    isplitl [Htk]; · iexact Htk
    iexact Hrest

/-- Every device opens its cells, and the tokens go round. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem dev_of_cell {a b : Dev nD} {x y : SemLoc sig} (h : ((a : Thread nD τ), x) = ((b : Thread nD τ), y)) : a = b :=
  congrArg (fun g : GSem nD τ sig => g.1.1) h

/-- Of the devices a step away, all but the device itself are addressed at some step. -/
theorem sum_steps (d c : Dev nD) (n : ℕ) :
    (∑ t ∈ finFrom 32 1, if c = peer d t then n else 0) = if d = c then 0 else n := by
  by_cases h : d = c
  · subst h
    rw [if_pos rfl]
    refine Finset.sum_eq_zero fun t ht => if_neg fun e => later_ne ht ?_
    rw [← dist_peer d t, ← e, dist_self]
  · rw [if_neg h, Finset.sum_eq_single (dist d c)]
    · exact if_pos (peer_dist d c).symm
    · intro t _ ht
      exact if_neg fun e => ht (by rw [e, dist_peer])
    · intro hn
      refine absurd (mem_duties fun e => h ?_) hn
      rw [← peer_dist d c, e, peer_zero]

theorem owed_bar (d c : Dev nD) : O₀ d (barCell c) () = if d = c then 0 else 1 := by
  have h0 : owR d 1 (barCell c) () = 0 := by
    rw [owR_apply]; exact Finset.sum_eq_zero fun t _ => if_neg fun e => recv_ne_bar (congrArg Prod.snd e).symm
  unfold O₀
  rw [Pi.add_apply, Finsupp.add_apply, h0, Nat.zero_add, owB_apply, ← sum_steps]
  refine Finset.sum_congr rfl fun t _ => ?_
  by_cases e : c = peer d t
  · rw [if_pos e, if_pos (by rw [← e])]
  · rw [if_neg e, if_neg fun h => e (dev_of_cell h)]
theorem owed_recv (d c : Dev nD) : O₀ d (recvCell c) () = if d = c then 0 else NB := by
  have h0 : owB d 1 (recvCell c) () = 0 := by
    rw [owB_apply]; exact Finset.sum_eq_zero fun t _ => if_neg fun e => recv_ne_bar (congrArg Prod.snd e)
  unfold O₀
  rw [Pi.add_apply, Finsupp.add_apply, h0, Nat.add_zero, owR_apply, ← sum_steps]
  refine Finset.sum_congr rfl fun t _ => ?_
  by_cases e : c = peer d t
  · rw [if_pos e, if_pos (by rw [← e])]
  · rw [if_neg e, if_neg fun h => e (dev_of_cell h)]

/-- All devices but one. -/
theorem sum_others (c : Dev nD) (n : ℕ) : (∑ d : Dev nD, if d = c then 0 else n) = 31 * n := by
  rw [← Finset.sum_erase Finset.univ (f := fun d : Dev nD => if d = c then 0 else n) (a := c) (if_pos rfl),
    Finset.sum_congr rfl fun d hd => if_neg (Finset.ne_of_mem_erase hd), Finset.sum_const, Finset.card_erase_of_mem (Finset.mem_univ c),
    smul_eq_mul]
  rfl

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c, sum_others]
theorem launch_recv (c : Dev nD) :
    tallyOn (recvCell c) (launchCredit (Pipeline.owing O₀) 0 (recvCell c)) = (tallyAt (recvCell c) () (31 * NB) : CellTallies nD τ sig Unit) := by
  unfold tallyAt; refine congrArg _ (Finsupp.ext fun u => ?_); cases u
  rw [Pipeline.launchCredit_owing, Finsupp.single_eq_same, Finset.sum_congr rfl fun d _ => owed_recv d c, sum_others]

theorem creds (c : Dev nD) : (Pipeline.launchCred O₀ c : sProp 𝕄) ⊢ credits c := by
  unfold Pipeline.launchCred credits
  rw [bigSep_univ_at _ (SemLoc.reg barS), launch_bar]
  refine sep_mono_right ?_
  rw [← launch_recv]
  exact bigSep_elim (Finset.mem_erase.mpr ⟨recv_ne_bar, Finset.mem_univ _⟩)

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start G' weights wBuf
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ ringBuf sendBuf
  iintro ⟨Hs, -, Hr, Hb⟩
  isplitl [Hs]; · iexact Hs
  isplitl [Hr]; · iexact Hr
  iexact Hb

/-- What a device keeps after its body: the handshake cell's counter at zero and the weights as they were. -/
def Y (c : Dev nD) : sProp 𝕄 := iprop(unscopedSems0 c ∗ weights m c)

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq, ownSems0_eq]
  unfold Φ₁ zeros Y ringBuf sendBuf
  rw [unscopedSems0_eq]
  iintro ⟨⟨Hr, Hw, Hcs⟩, Hb, HzS, HzV, HzB⟩
  isplitl [HzB Hw]
  · isplitl [HzB] <;> iassumption
  isplitl [Hcs HzS HzV]
  · isplitl [Hcs]; · iexact Hcs
    isplitl [HzS] <;> iassumption
  isplitl [Hr]; · iexact Hr
  iexact Hb

theorem mayWait_stage (c : Dev nD) (q : DmaSem sig) (hq : SemLoc.dma q ≠ .dma cc0_scratch4.sem) (O : CellTallies nD τ sig Unit) (hO : O = O₀ c ∨ O = 0) :
    (levAts L lv : sProp 𝕄) ⊢ MayWait (c : Thread nD τ) (.dma q) () O := by
  rcases hO with rfl | rfl
  · exact mayWait_dma c q hq 1 1
  · rw [MayWait_zero]; iintro -; iempintro
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- An argument's array ends as it was. -/
theorem final_in (c : Dev nD) (w : Fin cfg0.W) (h : (cfg0.win w).isOut = false) :
    finalA m ρ c w = m ((cfg0.win w).arr.view.loc (c : Thread nD τ)) := Dat.arrAt_in _ w h _

/-- Every array of a window at its final contents, the weights as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem weights_read (c : Dev nD) (s' : Phys nD τ sig (Elt F)) :
    iprop(weights m c ∗ SI s') ⊢ (iprop(⌜s'.mem.mem ((c : Thread nD τ).loc main_arg1) = m ((c : Thread nD τ).loc main_arg1)⌝ ∗ SI s') : sProp 𝕄) := by
  have h := pointsTo_read_all (Ix := Unit) (Name := ℕ) (U := UU) (Lvl := ℕ) ({c} : Finset (Dev nD))
    (fun c => (c : Thread nD τ).loc main_arg1) (fun c => m ((c : Thread nD τ).loc main_arg1)) s'
  rw [bigSep_singleton] at h
  refine h.trans ?_
  iintro ⟨%h, HS⟩
  isplitr
  · ipureintro; exact h c (Finset.mem_singleton_self c)
  · iexact HS

/-- On the mesh of 32 devices, for any float values, from any memory with zero counters: every weakly fair execution of
    the program terminates, and every final state has each window's array at the contents computed, the weights unchanged
    and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX' := (own_mesh (F := F)) $$ HX
      imod (fund_mesh m) $$ HX' with HG
      imodintro
      isplitl [HP] <;> iassumption)
    (hglob := glob m)
    (hA := fun _ _ => rfl) (hpf := fun _ k => k.elim0)
    (X := start m) (Y := Y m) (Z := fun _ => iprop(emp))
    (hX := start_intro m ρ) (hin := phi0_intro m ρ) (hout := phi1_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold Y
      iintro ⟨⟨Hu, Hw⟩, -, HSI⟩
      ihave H := (weights_read m c s') $$ [Hw HSI]
      · isplitl [Hw] <;> iassumption
      icases H with ⟨%hw, HSI⟩
      imod (Pipeline.unscopedSems0_read (X := unscopedSems0 c) (c := c) fupd_intro s') $$ [Hu HSI] with ⟨%hz, HSI⟩
      · isplitl [Hu] <;> iassumption
      imodintro
      isplitr; · ipureintro; exact ⟨hw, hz⟩
      iexact HSI)
    (hQ := fun _ h hs => ⟨fun c => ⟨fun w => (h c).1 w, (h c).2.2.1⟩, sem_eq_zero hs fun c => (h c).2.2.2⟩)

/-- The arguments of a device end as they were. -/
theorem arguments_of (c : Dev nD) (r : PUnit × MemSt nD τ sig (Elt F)) (h : QC m ρ r) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨((h c).1 (0 : Fin 4)).trans (final_in m ρ c (0 : Fin 4) rfl), (h c).2,
    ((h c).1 (1 : Fin 4)).trans (final_in m ρ c (1 : Fin 4) rfl), ((h c).1 (2 : Fin 4)).trans (final_in m ρ c (2 : Fin 4) rfl)⟩

end Cert.KernelIdeal.Mesh

end
-- ==== Proof.IdealValue.lean ====
/-
What the windows' arrays end holding: the arguments as they were, and the result on each device a block of the product
of the whole matrices, scaled and cut at zero, over the reals.
-/
module

public import proofs.«01_k».proof.Proof.IdealLaunch
public import proofs.«01_k».proof.Proof.Gen.ReferenceIdeal.Run
public import Idealize.ShloMosaic.Lib.Pipeline.Value
public import Idealize.ShloMosaic.Lib.StackMember
public import Idealize.ShloMosaic.Lib.MatmulPlain

@[expose] public section

set_option maxRecDepth 16384

noncomputable section

namespace Cert.KernelIdeal.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.ProtocolKit Idealize.ShloMosaic.Transfers

open Idealize.ShloMosaic.ValueIdx

/-! ## The windows' arrays -/

section Arrays

variable {F : FTy → Type} [FloatOps F]
variable (m : (ℓ : Loc nD τ sig) → Buf (Elt F) ℓ) (ρ : Dev nD → PrngReg)

/-- The block of the result's window is the whole result. -/
theorem out_emb (j : S4096x256.Idx) : (win0_3.blk (0 : Fin 1)).view.emb j = j :=
  funext fun a => match a with
    | (0 : Fin 2) => Fin.ext (by show 0 + 1 * (j (0 : Fin 2)).val = (j (0 : Fin 2)).val; omega)
    | (1 : Fin 2) => Fin.ext (by show 0 + 1 * (j (1 : Fin 2)).val = (j (1 : Fin 2)).val; omega)

theorem final_out (c : Dev nD) : finalA m ρ c (3 : Fin 4) = outAt m c := by
  unfold finalA
  refine Dat.arrAt_eq_of_cover (dats m ρ 0 c) (3 : Fin 4) (outAt m c) (fun t _ => ?_) fun i => ⟨t0_0, flush0_3 t0_0, ?_⟩
  · have ht : t = t0_0 := Subsingleton.elim (α := Fin 1) t t0_0
    subst ht
    funext j
    exact congrArg (outAt m c) (out_emb j).symm
  · have h := (win0_3.blk (0 : Fin 1)).view.emb_mem_set i
    rw [out_emb] at h
    exact h

end Arrays

/-! ## The value at an index -/

/-- An entry of the product of `X` and `W`, scaled by `s` and cut at zero. -/
def entry {M N : ℕ} (X : (⟨2, ![M, 4096]⟩ : Shape).Idx → EReal) (W : (⟨2, ![4096, N]⟩ : Shape).Idx → EReal) (s : EReal) (r : Fin M) (l : Fin N) : EReal :=
  max ((∑ k : Fin 4096, X (ix2 r k) * W (ix2 k l)) * s) 0

theorem dot_kernel : dot_S128x4096_S4096x256_S128x256_1_0_0_1_n_n = DotDims.plain 128 4096 256 := rfl
theorem dot_reference : Cert.ReferenceIdeal.dot_S4096x4096_S4096x8192_S4096x8192_1_0_0_1_n_n = DotDims.plain 4096 4096 8192 := rfl

theorem pay_apply (s : EReal) (x : FVec Ideal S128x4096 .fp8e5m2) (w : Vec Ideal S4096x256 .f32) (p : Fin 128) (q : Fin 256) :
    pay (F := Ideal) s x w (ix2 p q) = entry x w s p q := by
  have h := Ideal.matmul_plain_apply (φ₁ := .fp8e5m2) (φ₂ := .fp8e5m2) none x w (constant S128x256 .f32 0x00000000#32) p q
  have hz : (constant S128x256 .f32 0x00000000#32 : FVec Ideal S128x256 .f32) (ix2 p q) = 0 := Ideal.ofBits_zero_f32
  rw [hz, zero_add] at h
  unfold entry
  rw [← h, ← Ideal.ofBits_zero_f32]
  rfl

theorem entry_congr {M M' N N' : ℕ} {X : (⟨2, ![M, 4096]⟩ : Shape).Idx → EReal} {W : (⟨2, ![4096, N]⟩ : Shape).Idx → EReal}
    {X' : (⟨2, ![M', 4096]⟩ : Shape).Idx → EReal} {W' : (⟨2, ![4096, N']⟩ : Shape).Idx → EReal} {s s' : EReal}
    {r : Fin M} {l : Fin N} {r' : Fin M'} {l' : Fin N'}
    (hX : ∀ k, X (ix2 r k) = X' (ix2 r' k)) (hW : ∀ k, W (ix2 k l) = W' (ix2 k l')) (hs : s = s') : entry X W s r l = entry X' W' s' r' l' := by
  unfold entry; simp only [hX, hW, hs]

/-- The one index of a vector of one element. -/
abbrev one : S1.Idx := ix1 (0 : Fin 1)
/-- The element of a vector of one element. -/
def at1 (v : S1.Idx → EReal) : EReal := v one
theorem eq_one (i : S1.Idx) : i = one := by
  funext a
  match a with
  | (0 : Fin 1) => exact Subsingleton.elim (α := Fin 1) _ _

/-! ## The reference -/

/-- What the reference computes of its arguments. -/
abbrev refTerm (X : FVec Ideal Cert.ReferenceIdeal.S4096x4096 .f32) (W : FVec Ideal Cert.ReferenceIdeal.S4096x8192 .f32)
    (A B : FVec Ideal Cert.ReferenceIdeal.S1 .f32) : FVec Ideal Cert.ReferenceIdeal.S4096x8192 .f32 :=
  maximumf (mulf (Host.dotGeneral Cert.ReferenceIdeal.dot_S4096x4096_S4096x8192_S4096x8192_1_0_0_1_n_n none X W)
      (broadcastInDim Cert.ReferenceIdeal.S4096x8192 ![0, 1] Cert.ReferenceIdeal.Facts₀.bcast_S1x1_S4096x8192_0_1
        (broadcastInDim Cert.ReferenceIdeal.S1x1 ![1] Cert.ReferenceIdeal.Facts₀.bcast_S1_S1x1_1 (mulf A B))))
    (broadcastInDim Cert.ReferenceIdeal.S4096x8192 ![] Cert.ReferenceIdeal.Facts₀.bcast_S_S4096x8192 (constant Cert.ReferenceIdeal.S_ .f32 0x00000000#32))

theorem ref_apply (X : FVec Ideal Cert.ReferenceIdeal.S4096x4096 .f32) (W : FVec Ideal Cert.ReferenceIdeal.S4096x8192 .f32)
    (A B : FVec Ideal Cert.ReferenceIdeal.S1 .f32) (r : Fin 4096) (l : Fin 8192) :
    refTerm X W A B (ix2 r l) = entry X W (at1 A * at1 B) r l := by
  have h := StackMember.dotGeneral_plain_apply (φ₁ := .f32) (φ₂ := .f32) none X W r l
  have hs : (broadcastInDim Cert.ReferenceIdeal.S4096x8192 ![0, 1] Cert.ReferenceIdeal.Facts₀.bcast_S1x1_S4096x8192_0_1
        (broadcastInDim Cert.ReferenceIdeal.S1x1 ![1] Cert.ReferenceIdeal.Facts₀.bcast_S1_S1x1_1 (mulf A B))) (ix2 r l) = at1 A * at1 B :=
    congrArg (mulf A B) (eq_one _)
  unfold entry
  rw [← h, ← hs, ← Ideal.ofBits_zero_f32]
  rfl

/-! ## The kernel -/

variable (m : (ℓ : Loc nD τ sig) → Buf (Elt Ideal) ℓ)

theorem scale_eq (c : Dev nD) :
    scale (F := Ideal) m c = at1 (m ((c : Thread nD τ).loc main_arg2)) * at1 (m ((c : Thread nD τ).loc main_arg3)) :=
  congrArg₂ (fun a b : EReal => a * b) (congrArg (m ((c : Thread nD τ).loc main_arg2) : S1.Idx → EReal) (eq_one _))
    (congrArg (m ((c : Thread nD τ).loc main_arg3) : S1.Idx → EReal) (eq_one _))

theorem x_apply (d : Dev nD) (p : Fin 128) (k : Fin 4096) :
    k0_pay2 (F := Ideal) (xin m d) (ix2 p k) = (m ((d : Thread nD τ).loc main_arg0) : S128x4096.Idx → EReal) (ix2 p k) := by
  have h : k0_pay2 (F := Ideal) (xin m d) = xin m d := shapeCast_self (xin m d) shapeCasts_S128x4096_S128x4096
  rw [h]
  refine congrArg (m ((d : Thread nD τ).loc main_arg0) : S128x4096.Idx → EReal) (funext fun a => ?_)
  match a with
  | (0 : Fin 2) => exact Fin.ext (by show 0 + 1 * p.val = p.val; omega)
  | (1 : Fin 2) => exact Fin.ext (by show 0 + 1 * k.val = k.val; omega)

theorem w_apply (d c : Dev nD) (k : Fin 4096) (q : Fin 256) (l : Fin 8192) (hl : l.val = 256 * c.val + q.val) :
    wcol (F := Ideal) m d (dist d c) (ix2 k q) = (m ((d : Thread nD τ).loc main_arg1) : S4096x8192.Idx → EReal) (ix2 k l) := by
  refine congrArg (m ((d : Thread nD τ).loc main_arg1) : S4096x8192.Idx → EReal) (funext fun a => ?_)
  have ho := off1_eq (dist d c) d
  have hp : (d.val + (dist d c).val) % 32 = c.val := congrArg Fin.val (peer_dist d c)
  match a with
  | (0 : Fin 2) =>
    refine Fin.ext ?_
    show k0_off1 d (BitVec.ofNat 32 (dist d c).val) 0 + 1 * k.val = k.val
    rw [ho]; show 0 + 1 * k.val = k.val; omega
  | (1 : Fin 2) =>
    refine Fin.ext ?_
    show k0_off1 d (BitVec.ofNat 32 (dist d c).val) 1 + 1 * q.val = l.val
    rw [ho]; show 256 * ((d.val + (dist d c).val) % 32) + 1 * q.val = l.val
    rw [hp, hl]; omega

/-- The result on every device is its block of columns of what the reference computes of the whole arrays. -/
theorem out_value (X : FVec Ideal Cert.ReferenceIdeal.S4096x4096 .f32) (W : FVec Ideal Cert.ReferenceIdeal.S4096x8192 .f32)
    (A B : FVec Ideal Cert.ReferenceIdeal.S1 .f32)
    (hX : ∀ c : Dev nD, m ((c : Thread nD τ).loc main_arg0) = Layout.block ⟨2, ![128, 4096]⟩ ⟨2, ![4096, 4096]⟩ 0 32 c X)
    (hW : ∀ c : Dev nD, m ((c : Thread nD τ).loc main_arg1) = W) (hA : ∀ c : Dev nD, m ((c : Thread nD τ).loc main_arg2) = A)
    (hB : ∀ c : Dev nD, m ((c : Thread nD τ).loc main_arg3) = B) (c : Dev nD) :
    outAt (F := Ideal) m c = Layout.block ⟨2, ![4096, 256]⟩ ⟨2, ![4096, 8192]⟩ 1 32 c (refTerm X W A B) := by
  funext j
  obtain ⟨r, q, rfl⟩ : ∃ (r : Fin 4096) (q : Fin 256), j = ix2 r q := ⟨_, _, eq_ix2 j⟩
  have hc : c.val < 32 := c.isLt
  have hr := r.isLt
  have hq := q.isLt
  let l : Fin 8192 := ⟨c.val * 256 + q.val, by omega⟩
  let d : Dev nD := ⟨r.val / 128, Nat.div_lt_of_lt_mul hr⟩
  let p : Fin 128 := ⟨r.val % 128, Nat.mod_lt _ (by decide)⟩
  have hj : Layout.block ⟨2, ![4096, 256]⟩ ⟨2, ![4096, 8192]⟩ 1 32 c (refTerm X W A B) (by decide) (ix2 r q) = refTerm X W A B (ix2 r l) := by
    rw [Layout.block_apply]
    refine congrArg (refTerm X W A B) (funext fun a => ?_)
    match a with
    | (0 : Fin 2) => rfl
    | (1 : Fin 2) => rfl
  have ho : outAt (F := Ideal) m c (ix2 r q) = pay (F := Ideal) (scale m d) (k0_pay2 (xin m d)) (wcol m d (dist d c)) (ix2 p q) := by
    unfold outAt zblk
    refine congrArg (pay (F := Ideal) (scale m d) (k0_pay2 (xin m d)) (wcol m d (dist d c))) (funext fun a => ?_)
    match a with
    | (0 : Fin 2) => rfl
    | (1 : Fin 2) => rfl
  rw [hj, ho, ref_apply, pay_apply]
  refine entry_congr (fun k => ?_) (fun k => ?_) ?_
  · rw [x_apply, hX d, Layout.block_apply]
    refine congrArg X (funext fun a => ?_)
    match a with
    | (0 : Fin 2) => exact Fin.ext (by show r.val / 128 * 128 + r.val % 128 = r.val; omega)
    | (1 : Fin 2) => rfl
  · rw [w_apply m d c k q l (by show c.val * 256 + q.val = 256 * c.val + q.val; omega), hW d]
  · rw [scale_eq, hA d, hB d]

end Cert.KernelIdeal.Mesh

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.WordLaunch
public import proofs.«01_k».proof.Proof.IdealValue
public import Idealize.ShloMosaic.Lib.Quiescent
public import Idealize.ShloMosaic.Adequacy
public import Idealize.ShloMosaic.Init

@[expose] public section

noncomputable section

namespace Cert.Proof

open Idealize.ShloMosaic Idealize.SL.Sem

theorem kernel_frame : Cert.quiescent_Kernel (hKernel := Cert.Kernel.Gen.facts) := fun m g _ =>
  (θ_run Cert.Kernel.defs _ _).mono (fun r h => ⟨fun c => Cert.Kernel.Mesh.arguments_of m g c r h.1, h.2⟩) (Cert.Kernel.Mesh.run_main (F := Bits) m g)

theorem ideal_frame : Cert.quiescent_KernelIdeal (hKernelIdeal := Cert.KernelIdeal.Gen.facts) := fun m g _ =>
  (θ_run Cert.KernelIdeal.defs _ _).mono (fun r h => ⟨fun c => Cert.KernelIdeal.Mesh.arguments_of m g c r h.1, h.2⟩)
    (Cert.KernelIdeal.Mesh.run_main (F := Ideal) m g)

theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl _⟩) (Cert.ReferenceIdeal.Value.run (F := Ideal) m g)

theorem value : Cert.algebraic_KernelIdeal_ReferenceIdeal (hKernelIdeal := Cert.KernelIdeal.Gen.facts) (hReferenceIdeal := Cert.ReferenceIdeal.Gen.facts) :=
  fun m g m' g' _ h =>
    ⟨Cert.KernelIdeal.Mesh.refTerm _ _ _ _,
      (θ_run Cert.KernelIdeal.defs _ _).mono (fun r hr c => ⟨(((hr.1 c).1 (3 : Fin 4)).trans (Cert.KernelIdeal.Mesh.final_out m g c)).trans
          (Cert.KernelIdeal.Mesh.out_value m _ _ _ _ (fun c => (h c).1) (fun c => (h c).2.1) (fun c => (h c).2.2.1) (fun c => (h c).2.2.2) c),
        Cert.KernelIdeal.Mesh.arguments_of m g c r hr.1⟩) (Cert.KernelIdeal.Mesh.run_main (F := Ideal) m g),
      (θ_run Cert.ReferenceIdeal.defs _ _).mono (fun r hr => hr 0) (Cert.ReferenceIdeal.Value.run (F := Ideal) m' g')⟩

theorem claim : Cert.Claim := ⟨Cert.Kernel.Gen.facts, Cert.KernelIdeal.Gen.facts, Cert.ReferenceIdeal.Gen.facts,
  kernel_frame, ideal_frame, reference_frame, trivial, value⟩

end Cert.Proof

end
